-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S1024x128 : Shape := ⟨2, ![1024, 128]⟩
abbrev S1024x64x128 : Shape := ⟨3, ![1024, 64, 128]⟩
abbrev S1024x64x64 : Shape := ⟨3, ![1024, 64, 64]⟩
abbrev S1024x1 : Shape := ⟨2, ![1024, 1]⟩
abbrev S128x256 : Shape := ⟨2, ![128, 256]⟩
abbrev S256 : Shape := ⟨1, ![256]⟩
abbrev S256x256 : Shape := ⟨2, ![256, 256]⟩
abbrev S384 : Shape := ⟨1, ![384]⟩
abbrev S384x256 : Shape := ⟨2, ![384, 256]⟩
abbrev S256x1 : Shape := ⟨2, ![256, 1]⟩
abbrev S1 : Shape := ⟨1, ![1]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1024x64x128 : S_.BroadcastsInDim S1024x64x128 (![] : Fin 0 → Fin S1024x64x128.rank)
  reducesTo_S1024x64x128_S_d0_1_2 : S1024x64x128.ReducesTo [0, 1, 2] S_
  bcast_S_S1024x64x64 : S_.BroadcastsInDim S1024x64x64 (![] : Fin 0 → Fin S1024x64x64.rank)
  reducesTo_S1024x64x64_S_d0_1_2 : S1024x64x64.ReducesTo [0, 1, 2] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1024x1 : S_.BroadcastsInDim S1024x1 (![] : Fin 0 → Fin S1024x1.rank)
  reducesTo_S1024x1_S_d0_1 : S1024x1.ReducesTo [0, 1] S_

variable [Facts]

def fn_part2 {F : FTy → Type} [FloatOps F] (main_arg3 : IVec S1024x1 32) (main_arg8 : FVec F S256x256 .f32) (main_arg9 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_c_16 : IVec S_ 32 := constantI S_ 32 0#32
  let main_v44 : IVec S1024x1 32 := broadcastInDim S1024x1 ![] bcast_S_S1024x1 main_c_16
  let main_v45 : IVec S1024x1 1 := cmpi .sge main_arg3 main_v44
  let main_c_17 : IVec S_ 32 := constantI S_ 32 64#32
  let main_v46 : IVec S1024x1 32 := broadcastInDim S1024x1 ![] bcast_S_S1024x1 main_c_17
  let main_v47 : IVec S1024x1 1 := cmpi .slt main_arg3 main_v46
  let main_v48 : IVec S1024x1 1 := andi main_v45 main_v47
  let main_c_18 : IVec S_ 1 := constantI S_ 1 1#1
  let main_v49 : IVec S_ 1 := (fun x v => Host.reduce IntOp.andi x v reducesTo_S1024x1_S_d0_1 h_S_) main_v48 main_c_18
  let main_v50 : IVec S_ 1 := andi main_v43 main_v49
  main_v50

def fn_part1 {F : FTy → Type} [FloatOps F] (main_arg3 : IVec S1024x1 32) (main_arg5 : FVec F S256 .f32) (main_arg6 : FVec F S256x256 .f32) (main_arg7 : FVec F S256 .f32) (main_arg8 : FVec F S256x256 .f32) (main_arg9 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg3 main_arg8 main_arg9 main_v33

def fn {F : FTy → Type} [FloatOps F] (main_arg0 : FVec F S1024x128 .f32) (main_arg1 : FVec F S1024x64x128 .f32) (main_arg2 : FVec F S1024x64x64 .f32) (main_arg3 : IVec S1024x1 32) (main_arg4 : FVec F S128x256 .f32) (main_arg5 : FVec F S256 .f32) (main_arg6 : FVec F S256x256 .f32) (main_arg7 : FVec F S256 .f32) (main_arg8 : FVec F S256x256 .f32) (main_arg9 : FVec F S256 .f32) (main_arg10 : FVec F S384 .f32) (main_arg11 : FVec F S384 .f32) (main_arg12 : FVec F S384x256 .f32) (main_arg13 : FVec F S256 .f32) (main_arg14 : FVec F S256x256 .f32) (main_arg15 : FVec F S256 .f32) (main_arg16 : FVec F S256x1 .f32) (main_arg17 : FVec F S1 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x64x128 .f32 := Host.absf main_arg1
  let main_cst_0 : FVec F S_ .f32 := constant S_ .f32 0x7F800000#32
  let main_v5 : FVec F S1024x64x128 .f32 := broadcastInDim S1024x64x128 ![] bcast_S_S1024x64x128 main_cst_0
  let main_v6 : IVec S1024x64x128 1 := cmpf .olt main_v4 main_v5
  let main_c_1 : IVec S_ 1 := constantI S_ 1 1#1
  let main_v7 : IVec S_ 1 := (fun x v => Host.reduce IntOp.andi x v reducesTo_S1024x64x128_S_d0_1_2 h_S_) main_v6 main_c_1
  let main_v8 : IVec S_ 1 := andi main_v3 main_v7
  let main_v9 : FVec F S1024x64x64 .f32 := Host.absf main_arg2
  let main_cst_2 : FVec F S_ .f32 := constant S_ .f32 0x7F800000#32
  let main_v10 : FVec F S1024x64x64 .f32 := broadcastInDim S1024x64x64 ![] bcast_S_S1024x64x64 main_cst_2
  let main_v11 : IVec S1024x64x64 1 := cmpf .olt main_v9 main_v10
  let main_c_3 : IVec S_ 1 := constantI S_ 1 1#1
  let main_v12 : IVec S_ 1 := (fun x v => Host.reduce IntOp.andi x v reducesTo_S1024x64x64_S_d0_1_2 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg3 main_arg5 main_arg6 main_arg7 main_arg8 main_arg9 main_v13 main_v16
-- ==== Kernel.lean ====
abbrev S1024x128 : Shape := ⟨2, ![1024, 128]⟩
abbrev S1024x64x128 : Shape := ⟨3, ![1024, 64, 128]⟩
abbrev S1024x64x64 : Shape := ⟨3, ![1024, 64, 64]⟩
abbrev S1024x1 : Shape := ⟨2, ![1024, 1]⟩
abbrev S128x256 : Shape := ⟨2, ![128, 256]⟩
abbrev S256 : Shape := ⟨1, ![256]⟩
abbrev S256x256 : Shape := ⟨2, ![256, 256]⟩
abbrev S384 : Shape := ⟨1, ![384]⟩
abbrev S384x256 : Shape := ⟨2, ![384, 256]⟩
abbrev S256x1 : Shape := ⟨2, ![256, 1]⟩
abbrev S1 : Shape := ⟨1, ![1]⟩
abbrev S64x64x1024 : Shape := ⟨3, ![64, 64, 1024]⟩
abbrev S1x1024 : Shape := ⟨2, ![1, 1024]⟩
abbrev S1x256 : Shape := ⟨2, ![1, 256]⟩
abbrev S1024x256 : Shape := ⟨2, ![1024, 256]⟩
abbrev S1x384 : Shape := ⟨2, ![1, 384]⟩
abbrev S1x1 : Shape := ⟨2, ![1, 1]⟩
abbrev S128x64x128 : Shape := ⟨3, ![128, 64, 128]⟩
abbrev S64x64x128 : Shape := ⟨3, ![64, 64, 128]⟩
abbrev S1x128 : Shape := ⟨2, ![1, 128]⟩
abbrev S8192x128 : Shape := ⟨2, ![8192, 128]⟩
abbrev S8192x256 : Shape := ⟨2, ![8192, 256]⟩
abbrev S128x64x64 : Shape := ⟨3, ![128, 64, 64]⟩
abbrev S128x64 : Shape := ⟨2, ![128, 64]⟩
abbrev S128x64x1 : Shape := ⟨3, ![128, 64, 1]⟩
abbrev S128x64x256 : Shape := ⟨3, ![128, 64, 256]⟩
abbrev S1x1x256 : Shape := ⟨3, ![1, 1, 256]⟩
abbrev S128x1 : Shape := ⟨2, ![128, 1]⟩
abbrev S1024x384 : Shape := ⟨2, ![1024, 384]⟩
abbrev S1024 : Shape := ⟨1, ![1024]⟩

abbrev nBuf : Space → Nat
  | .hbm => 32
  | .vmem => 25
  | .smem => 0
  | _ => 0

abbrev bufTy : (tb : Table) → Fin (tcTables nBuf tb) → BufTy
  | .hbm, ⟨0, _⟩ => ⟨S1024x128, .f32⟩
  | .hbm, ⟨1, _⟩ => ⟨S1024x64x128, .f32⟩
  | .hbm, ⟨2, _⟩ => ⟨S1024x64x64, .f32⟩
  | .hbm, ⟨3, _⟩ => ⟨S1024x1, .i32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S384, .f32⟩
  | .hbm, ⟨11, _⟩ => ⟨S384, .f32⟩
  | .hbm, ⟨12, _⟩ => ⟨S384x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x1, .f32⟩
  | .hbm, ⟨17, _⟩ => ⟨S1, .f32⟩
  | .hbm, ⟨18, _⟩ => ⟨S64x64x1024, .f32⟩
  | .hbm, ⟨19, _⟩ => ⟨S1x1024, .i32⟩
  | .hbm, ⟨20, _⟩ => ⟨S1x256, .f32⟩
  | .hbm, ⟨21, _⟩ => ⟨S1x256, .f32⟩
  | .hbm, ⟨22, _⟩ => ⟨S1024x256, .f32⟩
  | .hbm, ⟨23, _⟩ => ⟨S1x256, .f32⟩
  | .hbm, ⟨24, _⟩ => ⟨S1x384, .f32⟩
  | .hbm, ⟨25, _⟩ => ⟨S1x384, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x1, .f32⟩
  | .hbm, ⟨30, _⟩ => ⟨S1x1024, .f32⟩
  | .hbm, ⟨31, _⟩ => ⟨S1024x1, .f32⟩
  | .local _ .vmem, ⟨0, _⟩ => ⟨S128x64x128, .f32⟩
  | .local _ .vmem, ⟨1, _⟩ => ⟨S128x64x128, .f32⟩
  | .local _ .vmem, ⟨2, _⟩ => ⟨S64x64x128, .f32⟩
  | .local _ .vmem, ⟨3, _⟩ => ⟨S64x64x128, .f32⟩
  | .local _ .vmem, ⟨4, _⟩ => ⟨S1x128, .i32⟩
  | .local _ .vmem, ⟨5, _⟩ => ⟨S1x128, .i32⟩
  | .local _ .vmem, ⟨6, _⟩ => ⟨S128x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S128x256, .f32⟩
  | .local _ .vmem, ⟨11, _⟩ => ⟨S128x256, .f32⟩
  | .local _ .vmem, ⟨12, _⟩ => ⟨S1024x256, .f32⟩
  | .local _ .vmem, ⟨13, _⟩ => ⟨S1024x128, .f32⟩
  | .local _ .vmem, ⟨14, _⟩ => ⟨S256x256, .f32⟩
  | .local _ .vmem, ⟨15, _⟩ => ⟨S1x256, .f32⟩
  | .local _ .vmem, ⟨16, _⟩ => ⟨S1x384, .f32⟩
  | .local _ .vmem, ⟨17, _⟩ => ⟨S1x384, .f32⟩
  | .local _ .vmem, ⟨18, _⟩ => ⟨S384x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S1x256, .f32⟩
  | .local _ .vmem, ⟨23, _⟩ => ⟨S1x1, .f32⟩
  | .local _ .vmem, ⟨24, _⟩ => ⟨S1x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_v0 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := .none

abbrev stage1_0 : Fin 1 → Memref sig .tc .vmem S1024x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S384x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S256x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
-- ==== ReferenceIdeal.lean ====
abbrev S1024x128 : Shape := ⟨2, ![1024, 128]⟩
abbrev S1024x64x128 : Shape := ⟨3, ![1024, 64, 128]⟩
abbrev S1024x64x64 : Shape := ⟨3, ![1024, 64, 64]⟩
abbrev S1024x1 : Shape := ⟨2, ![1024, 1]⟩
abbrev S128x256 : Shape := ⟨2, ![128, 256]⟩
abbrev S256 : Shape := ⟨1, ![256]⟩
abbrev S256x256 : Shape := ⟨2, ![256, 256]⟩
abbrev S384 : Shape := ⟨1, ![384]⟩
abbrev S384x256 : Shape := ⟨2, ![384, 256]⟩
abbrev S256x1 : Shape := ⟨2, ![256, 1]⟩
abbrev S1 : Shape := ⟨1, ![1]⟩
abbrev S1024x64x256 : Shape := ⟨3, ![1024, 64, 256]⟩
abbrev S1x1x256 : Shape := ⟨3, ![1, 1, 256]⟩
abbrev S_ : Shape := ⟨0, ![]⟩
abbrev S1024x64 : Shape := ⟨2, ![1024, 64]⟩
abbrev S1024x64x1 : Shape := ⟨3, ![1024, 64, 1]⟩
abbrev S1024 : Shape := ⟨1, ![1024]⟩
abbrev S1024x2 : Shape := ⟨2, ![1024, 2]⟩
abbrev S1024x256 : Shape := ⟨2, ![1024, 256]⟩
abbrev S1024x384 : Shape := ⟨2, ![1024, 384]⟩
abbrev S1x384 : Shape := ⟨2, ![1, 384]⟩
abbrev S1x256 : Shape := ⟨2, ![1, 256]⟩
abbrev S1x1 : Shape := ⟨2, ![1, 1]⟩

abbrev nBuf : Space → Nat
  | .hbm => 132
  | .vmem => 0
  | .smem => 0
  | _ => 0

abbrev hbmTy0_0 (i : Nat) : BufTy := match i % 128 with
  | 0 => ⟨S1024x128, .f32⟩
  | 1 => ⟨S1024x64x128, .f32⟩
  | 2 => ⟨S1024x64x64, .f32⟩
  | 3 => ⟨S1024x1, .i32⟩
  | 4 => ⟨S128x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S384, .f32⟩
  | 11 => ⟨S384, .f32⟩
  | 12 => ⟨S384x256, .f32⟩
  | 13 => ⟨S256, .f32⟩
  | 14 => ⟨S256x256, .f32⟩
  | 15 => ⟨S256, .f32⟩
  | 16 => ⟨S256x1, .f32⟩
  | 17 => ⟨S1, .f32⟩
  | 18 => ⟨S1024x64x256, .f32⟩
  | 19 => ⟨S1x1x256, .f32⟩
  | 20 => ⟨S1024x64x256, .f32⟩
  | 21 => ⟨S1024x64x256, .f32⟩
  | 22 => ⟨S_, .f32⟩
  | 23 => ⟨S1024x64x256, .f32⟩
  | 24 => ⟨S1024x64x256, .f32⟩
  | 25 => ⟨S_, .f32⟩
  | 26 => ⟨S1024x64, .f32⟩
  | 27 => ⟨S1024x64x1, .f32⟩
  | 28 => ⟨S_, .f32⟩
  | 29 => ⟨S1024x64x1, .f32⟩
  | 30 => ⟨S1024x64x1, .f32⟩
  | 31 => ⟨S1024x64x64, .f32⟩
  | 32 => ⟨S1024x64x64, .f32⟩
  | 33 => ⟨S1024x64x256, .f32⟩
  | 34 => ⟨S1024x64x256, .f32⟩
  | 35 => ⟨S1x1x256, .f32⟩
  | 36 => ⟨S1024x64x256, .f32⟩
  | 37 => ⟨S1024x64x256, .f32⟩
  | 38 => ⟨S_, .f32⟩
  | 39 => ⟨S1024x64x256, .f32⟩
  | 40 => ⟨S1024x64x256, .f32⟩
  | 41 => ⟨S1024x64x256, .f32⟩
  | 42 => ⟨S1024x64x256, .f32⟩
  | 43 => ⟨S1x1x256, .f32⟩
  | 44 => ⟨S1024x64x256, .f32⟩
  | 45 => ⟨S1024x64x256, .f32⟩
  | 46 => ⟨S_, .f32⟩
  | 47 => ⟨S1024x64x256, .f32⟩
  | 48 => ⟨S1024x64x256, .f32⟩
  | 49 => ⟨S1024, .i32⟩
  | 50 => ⟨S1024, .i32⟩
  | 51 => ⟨S_, .i32⟩
  | 52 => ⟨S1024, .i32⟩
  | 53 => ⟨S1024, .i1⟩
  | 54 => ⟨S_, .i32⟩
  | 55 => ⟨S1024, .i32⟩
  | 56 => ⟨S1024, .i32⟩
  | 57 => ⟨S1024, .i32⟩
  | 58 => ⟨S_, .i32⟩
  | 59 => ⟨S1024, .i32⟩
  | 60 => ⟨S1024, .i1⟩
  | 61 => ⟨S_, .i32⟩
  | 62 => ⟨S1024, .i32⟩
  | 63 => ⟨S1024, .i32⟩
  | 64 => ⟨S1024, .i32⟩
  | 65 => ⟨S1024x1, .i32⟩
  | 66 => ⟨S1024x1, .i32⟩
  | 67 => ⟨S1024x2, .i32⟩
  | 68 => ⟨S1024x256, .f32⟩
  | 69 => ⟨S1024x384, .f32⟩
  | 70 => ⟨S_, .f32⟩
  | 71 => ⟨S1024, .f32⟩
  | 72 => ⟨S1024x1, .f32⟩
  | 73 => ⟨S_, .f32⟩
  | 74 => ⟨S1024x1, .f32⟩
  | 75 => ⟨S1024x1, .f32⟩
  | 76 => ⟨S_, .i32⟩
  | 77 => ⟨S_, .f32⟩
  | 78 => ⟨S1024, .f32⟩
  | 79 => ⟨S1024x1, .f32⟩
  | 80 => ⟨S_, .f32⟩
  | 81 => ⟨S1024x1, .f32⟩
  | 82 => ⟨S1024x1, .f32⟩
  | 83 => ⟨S1024x384, .f32⟩
  | 84 => ⟨S1024x384, .f32⟩
  | 85 => ⟨S1024x384, .f32⟩
  | 86 => ⟨S_, .f32⟩
  | 87 => ⟨S_, .f32⟩
  | 88 => ⟨S_, .f32⟩
  | 89 => ⟨S_, .f32⟩
  | 90 => ⟨S1024, .f32⟩
  | 91 => ⟨S1024x1, .f32⟩
  | 92 => ⟨S1024x1, .f32⟩
  | 93 => ⟨S1024x1, .f32⟩
  | 94 => ⟨S_, .f32⟩
  | 95 => ⟨S_, .i1⟩
  | 96 => ⟨S_, .f32⟩
  | 97 => ⟨S_, .f32⟩
  | 98 => ⟨S1024x1, .f32⟩
  | 99 => ⟨S1024x1, .f32⟩
  | 100 => ⟨S1024x384, .f32⟩
  | 101 => ⟨S1024x384, .f32⟩
  | 102 => ⟨S_, .f32⟩
  | 103 => ⟨S1024x1, .f32⟩
  | 104 => ⟨S1024x1, .f32⟩
  | 105 => ⟨S1024x1, .f32⟩
  | 106 => ⟨S1024x384, .f32⟩
  | 107 => ⟨S1024x384, .f32⟩
  | 108 => ⟨S1x384, .f32⟩
  | 109 => ⟨S1024x384, .f32⟩
  | 110 => ⟨S1024x384, .f32⟩
  | 111 => ⟨S1x384, .f32⟩
  | 112 => ⟨S1024x384, .f32⟩
  | 113 => ⟨S1024x384, .f32⟩
  | 114 => ⟨S1024x256, .f32⟩
  | 115 => ⟨S1x256, .f32⟩
  | 116 => ⟨S1024x256, .f32⟩
  | 117 => ⟨S1024x256, .f32⟩
  | 118 => ⟨S_, .f32⟩
  | 119 => ⟨S1024x256, .f32⟩
  | 120 => ⟨S1024x256, .f32⟩
  | 121 => ⟨S1024x256, .f32⟩
  | 122 => ⟨S1x256, .f32⟩
  | 123 => ⟨S1024x256, .f32⟩
  | 124 => ⟨S1024x256, .f32⟩
  | 125 => ⟨S_, .f32⟩
  | 126 => ⟨S1024x256, .f32⟩
  | 127 => ⟨S1024x256, .f32⟩
  | _ => ⟨S1024x128, .f32⟩

abbrev hbmTy0_1 (i : Nat) : BufTy := match i % 128 with
  | 0 => ⟨S1024x1, .f32⟩
  | 1 => ⟨S1x1, .f32⟩
  | 2 => ⟨S1024x1, .f32⟩
  | 3 => ⟨S1024x1, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_v6 : Ref sig .tc := ⟨.hbm, 27, rfl⟩
abbrev main_cst_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_call1_cst : Ref sig .tc := ⟨.hbm, 38, rfl⟩
abbrev main_call1_v0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_call2_cst : Ref sig .tc := ⟨.hbm, 46, rfl⟩
abbrev main_call2_v0 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c : Ref sig .tc := ⟨.hbm, 51, rfl⟩
abbrev main_v25 : Ref sig .tc := ⟨.hbm, 52, rfl⟩
abbrev main_v26 : Ref sig .tc := ⟨.hbm, 53, rfl⟩
abbrev main_c_1 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_2 : Ref sig .tc := ⟨.hbm, 58, rfl⟩
abbrev main_v30 : Ref sig .tc := ⟨.hbm, 59, rfl⟩
abbrev main_v31 : Ref sig .tc := ⟨.hbm, 60, rfl⟩
abbrev main_c_3 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_4 : Ref sig .tc := ⟨.hbm, 70, rfl⟩
abbrev main_v40 : Ref sig .tc := ⟨.hbm, 71, rfl⟩
abbrev main_v41 : Ref sig .tc := ⟨.hbm, 72, rfl⟩
abbrev main_cst_5 : Ref sig .tc := ⟨.hbm, 73, rfl⟩
abbrev main_v42 : Ref sig .tc := ⟨.hbm, 74, rfl⟩
abbrev main_v43 : Ref sig .tc := ⟨.hbm, 75, rfl⟩
abbrev main_c_6 : Ref sig .tc := ⟨.hbm, 76, rfl⟩
abbrev main_call3_cst : Ref sig .tc := ⟨.hbm, 77, rfl⟩
abbrev main_call3_v0 : Ref sig .tc := ⟨.hbm, 78, rfl⟩
abbrev main_call3_v1 : Ref sig .tc := ⟨.hbm, 79, rfl⟩
abbrev main_call3_cst_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_v6 : Ref sig .tc := ⟨.hbm, 85, rfl⟩
abbrev main_call3_v7 : Ref sig .tc := ⟨.hbm, 86, rfl⟩
abbrev main_call3_cst_1 : Ref sig .tc := ⟨.hbm, 87, rfl⟩
abbrev main_call3_v8 : Ref sig .tc := ⟨.hbm, 88, rfl⟩
abbrev main_call3_cst_2 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_v12 : Ref sig .tc := ⟨.hbm, 93, rfl⟩
abbrev main_call3_cst_3 : Ref sig .tc := ⟨.hbm, 94, rfl⟩
abbrev main_call3_v13 : Ref sig .tc := ⟨.hbm, 95, rfl⟩
abbrev main_call3_cst_4 : Ref sig .tc := ⟨.hbm, 96, rfl⟩
abbrev main_call3_call0_v0 : Ref sig .tc := ⟨.hbm, 97, rfl⟩
abbrev main_call3_call0_v1 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_cst_7 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_call4_cst : Ref sig .tc := ⟨.hbm, 118, rfl⟩
abbrev main_call4_v0 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_call5_cst : Ref sig .tc := ⟨.hbm, 125, rfl⟩
abbrev main_call5_v0 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩

abbrev nD : Nat := 1
abbrev τ : Topo := Topo.v7x

variable {F : FTy → Type} [FloatOps F]
-- ==== Proof.ValueRun.lean ====
/- The kernel's run: every execution ends, and ends with every array of the program holding what the fold of its
   five stretches leaves in it. -/
module

public import proofs.«01_k».proof.Proof.Gen.KernelIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelIdeal.ValueRun

open Cert.KernelIdeal Cert.KernelIdeal.Gen

variable {F : FTy → Type} [FloatOps F]
variable (m : (ℓ : Loc nD τ sig) → Buf (Elt F) ℓ) (ρ : Dev nD → PrngReg)

set_option backward.isDefEq.respectTransparency.types false in
/-- Every execution of the kernel ends with every array it was handed or allocated outside a region at its contents after
    the last stretch. -/
theorem run : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Cert.KernelIdeal.ValueRun

end
-- ==== Proof.Spec.lean ====
/- The network's formulas for one environment, over the extended reals: first as the kernel computes them, then as the
   reference does. Nothing here mentions either program; Rows.lean, Head.lean and RefRead.lean say that the programs
   compute these, and Equation.lean that the two agree on finite inputs. -/
module

public import Idealize.ShloMosaic.Lib.Pointwise

@[expose] public section

noncomputable section

namespace GnnHead

open Idealize.ShloMosaic

/-- A vector of `n` extended reals. -/
abbrev Row (n : ℕ) := Fin n → EReal
/-- A matrix of extended reals, row index first. -/
abbrev Mat (n m : ℕ) := Fin n → Fin m → EReal

/-- The floor `1e-6` (as stored in 32 bits) under a node's degree. -/
def degFloor : EReal := Ideal.ofBits .f32 0x358637BD#32
/-- The number of features, `384`, as the programs store it. -/
def width : EReal := Ideal.ofBits .f32 0x43C00000#32
/-- The layer normalisation's `1e-5` (as stored in 32 bits). -/
def lnEps : EReal := Ideal.ofBits .f32 0x3727C5AC#32

/-! ## The graph -/

/-- A node's embedding: `relu (x · We + be)`. -/
def embed (X : Mat 64 128) (We : Mat 128 256) (be : Row 256) : Mat 64 256 :=
  fun n h => max (∑ d, X n d * We d h + be h) 0

/-- A node's degree, kept above the floor. -/
def deg (A : Mat 64 64) : Row 64 := fun i => max (∑ j, A i j) degFloor

/-- The adjacency scaled by the degree's reciprocal, as the kernel does it. -/
def scaled (A : Mat 64 64) : Mat 64 64 := fun i j => A i j * Ideal.div 1 (deg A i)
/-- The adjacency divided by the degree, as the reference does it. -/
def divided (A : Mat 64 64) : Mat 64 64 := fun i j => Ideal.div (A i j) (deg A i)

/-- A graph convolution with the weights applied first: `relu (N · (H · W) + b)`. -/
def convWeightsFirst (N : Mat 64 64) (H : Mat 64 256) (W : Mat 256 256) (b : Row 256) : Mat 64 256 :=
  fun i h => max (∑ j, N i j * ∑ e, H j e * W e h + b h) 0
/-- A graph convolution with the neighbours gathered first: `relu ((N · H) · W + b)`. -/
def conv (N : Mat 64 64) (H : Mat 64 256) (W : Mat 256 256) (b : Row 256) : Mat 64 256 :=
  fun i h => max (∑ e, (∑ j, N i j * H j e) * W e h + b h) 0

/-- What the kernel's first region leaves for one environment: the second layer's gathered neighbours, at the
    one row `a` asked for. -/
def gathered (X : Mat 64 128) (A : Mat 64 64) (a : Fin 64) (We : Mat 128 256) (be : Row 256) (Wg1 : Mat 256 256)
    (bg1 : Row 256) : Row 256 :=
  fun e => ∑ j, scaled A a j * convWeightsFirst (scaled A) (embed X We be) Wg1 bg1 j e

/-- The graph features from the gathered row: `relu (r · Wg2 + bg2)`. -/
def feats (r : Row 256) (Wg2 : Mat 256 256) (bg2 : Row 256) : Row 256 :=
  fun h => max (∑ e, r e * Wg2 e h + bg2 h) 0

/-- The reference's graph features of every node: two convolutions of the embedding. -/
def nodeFeats (X : Mat 64 128) (A : Mat 64 64) (We : Mat 128 256) (be : Row 256) (Wg1 : Mat 256 256) (bg1 : Row 256)
    (Wg2 : Mat 256 256) (bg2 : Row 256) : Mat 64 256 :=
  conv (divided A) (conv (divided A) (embed X We be) Wg1 bg1) Wg2 bg2

/-! ## The layer normalisation of the 128 central features followed by the 256 graph features -/

/-- The two parts side by side. -/
def joined (u : Row 128) (f : Row 256) : Row 384 :=
  fun k => if h : k.val < 128 then u ⟨k.val, h⟩ else f ⟨k.val - 128, by omega⟩

/-- The mean of the 384 features. -/
def mean (u : Row 128) (f : Row 256) : EReal := Ideal.div (∑ k, u k + ∑ k, f k) width

/-- The variance as the kernel computes it: the mean of the squares less the square of the mean. -/
def varOfSquares (u : Row 128) (f : Row 256) : EReal :=
  Ideal.div (∑ k, u k * u k + ∑ k, f k * f k) width - mean u f * mean u f
/-- The variance as the reference computes it: the mean of the squared deviations. -/
def varOfDeviations (u : Row 128) (f : Row 256) : EReal :=
  Ideal.div (∑ k, (u k - mean u f) * (u k - mean u f) + ∑ k, (f k - mean u f) * (f k - mean u f)) width

/-- The kernel's normalisation. -/
def normedRsqrt (u : Row 128) (f : Row 256) (g be : Row 384) : Row 384 :=
  fun k => (joined u f k - mean u f) * Ideal.rsqrt (varOfSquares u f + lnEps) * g k + be k
/-- The reference's normalisation. -/
def normedSqrt (u : Row 128) (f : Row 256) (g be : Row 384) : Row 384 :=
  fun k => Ideal.div (joined u f k - mean u f) (Ideal.sqrt (varOfDeviations u f + lnEps)) * g k + be k

/-! ## The head -/

/-- The value head: two hidden layers, then one number. -/
def value (z : Row 384) (W1 : Mat 384 256) (b1 : Row 256) (W2 : Mat 256 256) (b2 : Row 256) (Wv : Row 256)
    (bv : EReal) : EReal :=
  ∑ x, max (∑ y, max (∑ k, z k * W1 k y + b1 y) 0 * W2 y x + b2 x) 0 * Wv x + bv

end GnnHead

end
-- ==== Proof.Rows.lean ====
/- What the kernel's two bodies compute, read at an index: the first region's block of gathered rows, the second region's
   values. Stated over any blocks. -/
module

public import proofs.«01_k».proof.Proof.Gen.KernelIdeal.Skeleton
public import proofs.«01_k».proof.Proof.Spec
public import Idealize.ShloMosaic.Lib.Pointwise

@[expose] public section

set_option maxRecDepth 16384

noncomputable section

open Idealize.ShloMosaic Idealize.ShloMosaic.TcCoe Idealize.SL.Sem

namespace Cert.KernelIdeal.Rows

open Cert.KernelIdeal Cert.KernelIdeal.Gen GnnHead

/-! ## The first region's body -/

/-- The body's scaled adjacency, of environment `p` of the block (the block holds the environments last). -/
theorem adj_at (v13 : FVec Ideal S64x64x128 .f32) (p : Fin 128) (i j : Fin 64) :
    k0_pay2 (F := Ideal) v13 (ix3 p i j) = scaled (fun i j => v13 (ix3 i j p)) i j := by
  pointwise [k0_pay2]
  rfl

/-- The body's first convolution before its relu. -/
theorem layer_at (v0 : FVec Ideal S128x64x128 .f32) (v3 : FVec Ideal S128x256 .f32) (v6 : FVec Ideal S1x256 .f32)
    (v13 : FVec Ideal S64x64x128 .f32) (v25 : FVec Ideal S256x256 .f32) (v31 : FVec Ideal S1x256 .f32) (p : Fin 128) (j : Fin 64)
    (h : Fin 256) :
    max (k0_pay3 (F := Ideal) v0 v3 v6 v13 v25 v31 (ix3 p j h)) (k0_pay4 (F := Ideal) (ix3 p j h))
      = convWeightsFirst (scaled fun i j => v13 (ix3 i j p))
          (embed (fun n d => v0 (ix3 p n d)) (fun d h => v3 (ix2 d h)) fun h => v6 (ix2 0 h))
          (fun e h => v25 (ix2 e h)) (fun h => v31 (ix2 0 h)) j h := by
  pointwise [k0_pay3, k0_pay4]
  simp only [adj_at]
  rfl

/-- The one-hot row: the word for "`i` is the agent asked for", as a number. -/
theorem hot (i a : Fin 64) (w : BitVec 32) (hw : w = BitVec.ofNat 32 a.val) :
    (FloatOps.sitofp FTy.f32 (BitVec.setWidth 32 (IntOp.cmpi CmpIPredicate.eq (BitVec.ofNat 32 i.val) w)) : Ideal .f32)
      = if i = a then (1 : EReal) else 0 := by
  subst hw
  show (((BitVec.setWidth 32 (IntOp.cmpi CmpIPredicate.eq (BitVec.ofNat 32 i.val) (BitVec.ofNat 32 a.val))).toInt : ℝ) : EReal) = _
  by_cases h : i = a
  · subst h
    rw [if_pos rfl]
    simp [IntOp.cmpi]
  · have hne : BitVec.ofNat 32 i.val ≠ BitVec.ofNat 32 a.val := fun e => h (Fin.ext (by
      have := congrArg BitVec.toNat e
      rw [BitVec.toNat_ofNat, BitVec.toNat_ofNat] at this
      omega))
    rw [if_neg h]
    have hf : (BitVec.ofNat 32 i.val == BitVec.ofNat 32 a.val) = false := beq_eq_false_iff_ne.mpr hne
    simp [IntOp.cmpi, hf]

/-- A row picked out by its one-hot weights. -/
theorem sum_hot (a : Fin 64) (f : Fin 64 → EReal) : ∑ i, (if i = a then (1 : EReal) else 0) * f i = f a := by
  rw [Finset.sum_eq_single a (fun b _ hb => by rw [if_neg hb, zero_mul]) fun h => absurd (Finset.mem_univ a) h, if_pos rfl, one_mul]

/-- What the body stores for environment `p` of its block, where that environment asks for node `a`. -/
theorem block_at (v0 : FVec Ideal S128x64x128 .f32) (v3 : FVec Ideal S128x256 .f32) (v6 : FVec Ideal S1x256 .f32)
    (v13 : FVec Ideal S64x64x128 .f32) (v25 : FVec Ideal S256x256 .f32) (v31 : FVec Ideal S1x256 .f32) (v38 : IVec S1x128 32)
    (p : Fin 128) (h : Fin 256) (a : Fin 64) (ha : v38 (ix2 0 p) = BitVec.ofNat 32 a.val) :
    k0_pay1 (F := Ideal) (k0_pay2 v13) (k0_pay3 v0 v3 v6 v13 v25 v31) (k0_pay4 (F := Ideal)) v38 (ix2 p h)
      = gathered (fun n d => v0 (ix3 p n d)) (fun i j => v13 (ix3 i j p)) a (fun d h => v3 (ix2 d h)) (fun h => v6 (ix2 0 h))
          (fun e h => v25 (ix2 e h)) (fun h => v31 (ix2 0 h)) h := by
  pointwise [k0_pay1]
  simp only [layer_at, adj_at, hot _ a _ ha, sum_hot]
  rfl

/-! ## The second region's body -/

/-- The body's normalised features of environment `b`. -/
theorem normed_at (v0 : FVec Ideal S1024x256 .f32) (v3 : FVec Ideal S256x256 .f32) (v6 : FVec Ideal S1x256 .f32)
    (v12 : FVec Ideal S1024x128 .f32) (v32 v36 : FVec Ideal S1x384 .f32) (b : Fin 1024) (k : Fin 384) :
    k1_pay2 (F := Ideal) v0 v3 v6 v12 v32 v36 (ix2 b k)
      = normedRsqrt (fun k => v12 (ix2 b k)) (feats (fun e => v0 (ix2 b e)) (fun e h => v3 (ix2 e h)) fun h => v6 (ix2 0 h))
          (fun k => v32 (ix2 0 k)) (fun k => v36 (ix2 0 k)) k := by
  pointwise [k1_pay2]
  rfl

/-- The value the body stores for environment `b`. -/
theorem value_at (v40 : FVec Ideal S1024x384 .bf16) (v41 : FVec Ideal S384x256 .f32) (v44 : FVec Ideal S1x256 .f32)
    (v51 : FVec Ideal S256x256 .f32) (v54 : FVec Ideal S1x256 .f32) (v60 : FVec Ideal S1x256 .f32) (v66 : FVec Ideal S1x1 .f32)
    (b : Fin 1024) :
    k1_pay1 (F := Ideal) v40 v41 v44 v51 v54 v60 v66 (ix2 0 b)
      = value (fun k => v40 (ix2 b k)) (fun k y => v41 (ix2 k y)) (fun y => v44 (ix2 0 y)) (fun y x => v51 (ix2 y x))
          (fun x => v54 (ix2 0 x)) (fun x => v60 (ix2 0 x)) (v66 (ix2 0 0)) := by
  pointwise [k1_pay1]
  rfl

end Cert.KernelIdeal.Rows

end
-- ==== Proof.Region0.lean ====
/- The array the first region leaves: at `(b, h)`, the aggregated row of the node environment `b` asks for. -/
module

public import proofs.«01_k».proof.Proof.Gen.KernelIdeal.Frame
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen Cert.KernelIdeal.Rows GnnHead

variable (V : (c : Dev nD) → (b : Ref sig .tc) → Buf (Elt Ideal) ((c : Thread nD τ).loc b))

/-- What the first region leaves at `(b, h)`, of the arrays it reads. -/
def rows (x1 : FVec Ideal S1024x64x128 .f32) (xt : FVec Ideal S64x64x1024 .f32) (a : Fin 1024 → Fin 64) (x4 : FVec Ideal S128x256 .f32)
    (y5 : FVec Ideal S1x256 .f32) (x6 : FVec Ideal S256x256 .f32) (y7 : FVec Ideal S1x256 .f32) : FVec Ideal S1024x256 .f32 := fun j =>
  gathered (fun n d => x1 (ix3 (j 0) n d)) (fun i k => xt (ix3 i k (j 0))) (a (j 0)) (fun d h => x4 (ix2 d h))
    (fun h => y5 (ix2 0 h)) (fun e h => x6 (ix2 e h)) (fun h => y7 (ix2 0 h)) (j 1)

theorem rows_at (x1 : FVec Ideal S1024x64x128 .f32) (xt : FVec Ideal S64x64x1024 .f32) (a : Fin 1024 → Fin 64)
    (x4 : FVec Ideal S128x256 .f32) (y5 : FVec Ideal S1x256 .f32) (x6 : FVec Ideal S256x256 .f32) (y7 : FVec Ideal S1x256 .f32)
    (b : Fin 1024) (h : Fin 256) :
    rows x1 xt a x4 y5 x6 y7 (ix2 b h)
      = gathered (fun n d => x1 (ix3 b n d)) (fun i k => xt (ix3 i k b)) (a b) (fun d h => x4 (ix2 d h))
          (fun h => y5 (ix2 0 h)) (fun e h => x6 (ix2 e h)) (fun h => y7 (ix2 0 h)) h := rfl

/-! ## Where each window's block sits at point `t` -/

theorem i0 : ∀ t : Fin cfg0.N, win0_0.index t = ![(grid0.coords t 0).val, 0, 0] := (by decide +kernel : ∀ t : Fin grid0.N, _)
theorem i1 : ∀ t : Fin cfg0.N, win0_1.index t = ![0, 0, (grid0.coords t 0).val] := (by decide +kernel : ∀ t : Fin grid0.N, _)
theorem i2 : ∀ t : Fin cfg0.N, win0_2.index t = ![0, (grid0.coords t 0).val] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![(grid0.coords t 0).val, 0] := (by decide +kernel : ∀ t : Fin grid0.N, _)

/-! ## Each window's block at an index -/

section
variable (c : Dev nD) (t : Fin cfg0.N) (B : Fin 1024) (p : Fin 128) (hB : B.val = (grid0.coords t 0).val * 128 + p.val)
include hB

theorem read0 (n : Fin 64) (d : Fin 128) : iblk0 V c 0 t (ix3 p n d) = (V c main_arg1 : FVec Ideal S1024x64x128 .f32) (ix3 B n d) := by
  blk_simp [iblk0]
  exact congrArg (V c main_arg1) (by blk_ext [i0 t])

theorem read1 (i k : Fin 64) : iblk0 V c 1 t (ix3 i k p) = (V c main_call0_v0 : FVec Ideal S64x64x1024 .f32) (ix3 i k B) := by
  blk_simp [iblk0]
  exact congrArg (V c main_call0_v0) (by blk_ext [i1 t])

theorem read2 : iblk0 V c 2 t (ix2 0 p) = (V c main_call0_v1 : IVec S1x1024 32) (ix2 0 B) := by
  blk_simp [iblk0]
  exact congrArg (V c main_call0_v1) (by blk_ext [i2 t])

theorem place7 (h : Fin 256) : ((View.whole main_call0_v4).slice (win0_7.rect t)).emb (ix2 p h) = (ix2 B h : S1024x256.Idx) := by
  blk_ext [i7 t]
end

theorem read3 (c : Dev nD) (t : Fin cfg0.N) (d : Fin 128) (h : Fin 256) :
    iblk0 V c 3 t (ix2 d h) = (V c main_arg4 : FVec Ideal S128x256 .f32) (ix2 d h) := by
  blk_simp [iblk0]
  exact congrArg (V c main_arg4) (by blk_ext [i3 t])

theorem read4 (c : Dev nD) (t : Fin cfg0.N) (h : Fin 256) :
    iblk0 V c 4 t (ix2 0 h) = (V c main_call0_v2 : FVec Ideal S1x256 .f32) (ix2 0 h) := by
  blk_simp [iblk0]
  exact congrArg (V c main_call0_v2) (by blk_ext [i4 t])

theorem read5 (c : Dev nD) (t : Fin cfg0.N) (d h : Fin 256) :
    iblk0 V c 5 t (ix2 d h) = (V c main_arg6 : FVec Ideal S256x256 .f32) (ix2 d h) := by
  blk_simp [iblk0]
  exact congrArg (V c main_arg6) (by blk_ext [i5 t])

theorem read6 (c : Dev nD) (t : Fin cfg0.N) (h : Fin 256) :
    iblk0 V c 6 t (ix2 0 h) = (V c main_call0_v3 : FVec Ideal S1x256 .f32) (ix2 0 h) := by
  blk_simp [iblk0]
  exact congrArg (V c main_call0_v3) (by blk_ext [i6 t])

/-- The body's result over blocks that read as given arrays' entries is the row of those arrays. -/
theorem block_rows (b0 : FVec Ideal S128x64x128 .f32) (b3 : FVec Ideal S128x256 .f32) (b4 : FVec Ideal S1x256 .f32)
    (b1 : FVec Ideal S64x64x128 .f32) (b5 : FVec Ideal S256x256 .f32) (b6 : FVec Ideal S1x256 .f32) (b2 : IVec S1x128 32)
    (x1 : FVec Ideal S1024x64x128 .f32) (xt : FVec Ideal S64x64x1024 .f32) (a : Fin 1024 → Fin 64) (x4 : FVec Ideal S128x256 .f32)
    (y5 : FVec Ideal S1x256 .f32) (x6 : FVec Ideal S256x256 .f32) (y7 : FVec Ideal S1x256 .f32) (p : Fin 128) (B : Fin 1024)
    (h : Fin 256) (h0 : ∀ n d, b0 (ix3 p n d) = x1 (ix3 B n d)) (h1 : ∀ i k, b1 (ix3 i k p) = xt (ix3 i k B))
    (h2 : b2 (ix2 0 p) = BitVec.ofNat 32 (a B).val) (h3 : ∀ d h, b3 (ix2 d h) = x4 (ix2 d h))
    (h4 : ∀ h, b4 (ix2 0 h) = y5 (ix2 0 h)) (h5 : ∀ e h, b5 (ix2 e h) = x6 (ix2 e h)) (h6 : ∀ h, b6 (ix2 0 h) = y7 (ix2 0 h)) :
    k0_pay1 (F := Ideal) (k0_pay2 b1) (k0_pay3 b0 b3 b4 b1 b5 b6) (k0_pay4 (F := Ideal)) b2 (ix2 p h)
      = rows x1 xt a x4 y5 x6 y7 (ix2 B h) := by
  rw [block_at b0 b3 b4 b1 b5 b6 b2 p h (a B) h2]
  simp only [h0, h1, h3, h4, h5, h6]
  rfl

/-- The array the first region leaves, where `a b` is the node environment `b` asks for. -/
theorem array0 (c : Dev nD) (a : Fin 1024 → Fin 64)
    (ha : ∀ b : Fin 1024, (V c main_call0_v1 : IVec S1x1024 32) (ix2 0 b) = BitVec.ofNat 32 (a b).val) :
    (dat0 V c).arrAt 7 cfg0.N
      = rows (V c main_arg1) (V c main_call0_v0) a (V c main_arg4) (V c main_call0_v2) (V c main_arg6) (V c main_call0_v3) := by
  refine (dat0 V c).arrAt_eq_of_covers 7 _ (by decide +kernel) fun t _ y => ?_
  blk_simp
  rw [after0_7]
  frame_out
  idx_vars y
  have hc : (grid0.coords t 0).val < 8 := (grid0.coords t 0).isLt
  obtain ⟨B, hB⟩ : ∃ B : Fin 1024, B.val = (grid0.coords t 0).val * 128 + y0.val := ⟨⟨_, by omega⟩, rfl⟩
  refine (block_rows (iblk0 V c 0 t) (iblk0 V c 3 t) (iblk0 V c 4 t) (iblk0 V c 1 t) (iblk0 V c 5 t) (iblk0 V c 6 t) (iblk0 V c 2 t)
    (V c main_arg1) (V c main_call0_v0) a (V c main_arg4) (V c main_call0_v2) (V c main_arg6) (V c main_call0_v3) y0 B y1
    (read0 V c t B y0 hB) (read1 V c t B y0 hB) ((read2 V c t B y0 hB).trans (ha B)) (read3 V c t) (read4 V c t) (read5 V c t)
    (read6 V c t)).trans ?_
  exact congrArg _ (place7 t B y0 hB y1).symm

end Cert.KernelIdeal.Region0

end
-- ==== Proof.Region1.lean ====
/- The array the second region leaves: at `(0, b)`, the value of environment `b`. -/
module

public import proofs.«01_k».proof.Proof.Gen.KernelIdeal.Frame
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen Cert.KernelIdeal.Rows GnnHead

variable (V : (c : Dev nD) → (b : Ref sig .tc) → Buf (Elt Ideal) ((c : Thread nD τ).loc b))

/-- What the second region leaves at `(0, b)`, of the arrays it reads. -/
def values (r : FVec Ideal S1024x256 .f32) (x0 : FVec Ideal S1024x128 .f32) (x8 : FVec Ideal S256x256 .f32) (y9 : FVec Ideal S1x256 .f32)
    (y10 y11 : FVec Ideal S1x384 .f32) (x12 : FVec Ideal S384x256 .f32) (y13 : FVec Ideal S1x256 .f32) (x14 : FVec Ideal S256x256 .f32)
    (y15 y16 : FVec Ideal S1x256 .f32) (y17 : FVec Ideal S1x1 .f32) : FVec Ideal S1x1024 .f32 := fun j =>
  k1_pay1 (k1_pay2 r x8 y9 x0 y10 y11) x12 y13 x14 y15 y16 y17 j

/-! ## Each input window's block is its whole array -/

theorem j0 : ∀ t : Fin cfg1.N, win1_0.index t = ![0, 0] := (by decide +kernel : ∀ t : Fin grid1.N, _)
theorem j1 : ∀ t : Fin cfg1.N, win1_1.index t = ![0, 0] := (by decide +kernel : ∀ t : Fin grid1.N, _)
theorem j2 : ∀ t : Fin cfg1.N, win1_2.index t = ![0, 0] := (by decide +kernel : ∀ t : Fin grid1.N, _)
theorem j3 : ∀ t : Fin cfg1.N, win1_3.index t = ![0, 0] := (by decide +kernel : ∀ t : Fin grid1.N, _)
theorem j4 : ∀ t : Fin cfg1.N, win1_4.index t = ![0, 0] := (by decide +kernel : ∀ t : Fin grid1.N, _)
theorem j5 : ∀ t : Fin cfg1.N, win1_5.index t = ![0, 0] := (by decide +kernel : ∀ t : Fin grid1.N, _)
theorem j6 : ∀ t : Fin cfg1.N, win1_6.index t = ![0, 0] := (by decide +kernel : ∀ t : Fin grid1.N, _)
theorem j7 : ∀ t : Fin cfg1.N, win1_7.index t = ![0, 0] := (by decide +kernel : ∀ t : Fin grid1.N, _)
theorem j8 : ∀ t : Fin cfg1.N, win1_8.index t = ![0, 0] := (by decide +kernel : ∀ t : Fin grid1.N, _)
theorem j9 : ∀ t : Fin cfg1.N, win1_9.index t = ![0, 0] := (by decide +kernel : ∀ t : Fin grid1.N, _)
theorem j10 : ∀ t : Fin cfg1.N, win1_10.index t = ![0, 0] := (by decide +kernel : ∀ t : Fin grid1.N, _)
theorem j11 : ∀ t : Fin cfg1.N, win1_11.index t = ![0, 0] := (by decide +kernel : ∀ t : Fin grid1.N, _)

theorem read0 (c : Dev nD) (t : Fin cfg1.N) : iblk1 V c 0 t = (V c main_call0_v4 : FVec Ideal S1024x256 .f32) := by
  funext i
  blk_simp [iblk1]
  exact congrArg (V c main_call0_v4) (by blk_ext [j0 t])

theorem read1 (c : Dev nD) (t : Fin cfg1.N) : iblk1 V c 1 t = (V c main_arg0 : FVec Ideal S1024x128 .f32) := by
  funext i
  blk_simp [iblk1]
  exact congrArg (V c main_arg0) (by blk_ext [j1 t])

theorem read2 (c : Dev nD) (t : Fin cfg1.N) : iblk1 V c 2 t = (V c main_arg8 : FVec Ideal S256x256 .f32) := by
  funext i
  blk_simp [iblk1]
  exact congrArg (V c main_arg8) (by blk_ext [j2 t])

theorem read3 (c : Dev nD) (t : Fin cfg1.N) : iblk1 V c 3 t = (V c main_call0_v5 : FVec Ideal S1x256 .f32) := by
  funext i
  blk_simp [iblk1]
  exact congrArg (V c main_call0_v5) (by blk_ext [j3 t])

theorem read4 (c : Dev nD) (t : Fin cfg1.N) : iblk1 V c 4 t = (V c main_call0_v6 : FVec Ideal S1x384 .f32) := by
  funext i
  blk_simp [iblk1]
  exact congrArg (V c main_call0_v6) (by blk_ext [j4 t])

theorem read5 (c : Dev nD) (t : Fin cfg1.N) : iblk1 V c 5 t = (V c main_call0_v7 : FVec Ideal S1x384 .f32) := by
  funext i
  blk_simp [iblk1]
  exact congrArg (V c main_call0_v7) (by blk_ext [j5 t])

theorem read6 (c : Dev nD) (t : Fin cfg1.N) : iblk1 V c 6 t = (V c main_arg12 : FVec Ideal S384x256 .f32) := by
  funext i
  blk_simp [iblk1]
  exact congrArg (V c main_arg12) (by blk_ext [j6 t])

theorem read7 (c : Dev nD) (t : Fin cfg1.N) : iblk1 V c 7 t = (V c main_call0_v8 : FVec Ideal S1x256 .f32) := by
  funext i
  blk_simp [iblk1]
  exact congrArg (V c main_call0_v8) (by blk_ext [j7 t])

theorem read8 (c : Dev nD) (t : Fin cfg1.N) : iblk1 V c 8 t = (V c main_arg14 : FVec Ideal S256x256 .f32) := by
  funext i
  blk_simp [iblk1]
  exact congrArg (V c main_arg14) (by blk_ext [j8 t])

theorem read9 (c : Dev nD) (t : Fin cfg1.N) : iblk1 V c 9 t = (V c main_call0_v9 : FVec Ideal S1x256 .f32) := by
  funext i
  blk_simp [iblk1]
  exact congrArg (V c main_call0_v9) (by blk_ext [j9 t])

theorem read10 (c : Dev nD) (t : Fin cfg1.N) : iblk1 V c 10 t = (V c main_call0_v10 : FVec Ideal S1x256 .f32) := by
  funext i
  blk_simp [iblk1]
  exact congrArg (V c main_call0_v10) (by blk_ext [j10 t])

theorem read11 (c : Dev nD) (t : Fin cfg1.N) : iblk1 V c 11 t = (V c main_call0_v11 : FVec Ideal S1x1 .f32) := by
  funext i
  blk_simp [iblk1]
  exact congrArg (V c main_call0_v11) (by blk_ext [j11 t])

/-- The body's result over blocks that are given arrays. -/
theorem body_values {b0 r : FVec Ideal S1024x256 .f32} {b1 x0 : FVec Ideal S1024x128 .f32} {b2 x8 : FVec Ideal S256x256 .f32}
    {b3 y9 : FVec Ideal S1x256 .f32} {b4 b5 y10 y11 : FVec Ideal S1x384 .f32} {b6 x12 : FVec Ideal S384x256 .f32}
    {b7 y13 : FVec Ideal S1x256 .f32} {b8 x14 : FVec Ideal S256x256 .f32} {b9 b10 y15 y16 : FVec Ideal S1x256 .f32}
    {b11 y17 : FVec Ideal S1x1 .f32} (h0 : b0 = r) (h1 : b1 = x0) (h2 : b2 = x8) (h3 : b3 = y9) (h4 : b4 = y10) (h5 : b5 = y11)
    (h6 : b6 = x12) (h7 : b7 = y13) (h8 : b8 = x14) (h9 : b9 = y15) (h10 : b10 = y16) (h11 : b11 = y17) (j : S1x1024.Idx) :
    k1_pay1 (F := Ideal) (k1_pay2 b0 b2 b3 b1 b4 b5) b6 b7 b8 b9 b10 b11 j
      = values r x0 x8 y9 y10 y11 x12 y13 x14 y15 y16 y17 j := by
  subst h0 h1 h2 h3 h4 h5 h6 h7 h8 h9 h10 h11
  rfl

/-- The region's one point. -/
def t0 : Fin cfg1.N := ⟨0, by decide⟩

/-- The array the second region leaves. -/
theorem array1 (c : Dev nD) :
    (dat1 V c).arrAt 12 cfg1.N
      = values (V c main_call0_v4) (V c main_arg0) (V c main_arg8) (V c main_call0_v5) (V c main_call0_v6) (V c main_call0_v7)
          (V c main_arg12) (V c main_call0_v8) (V c main_arg14) (V c main_call0_v9) (V c main_call0_v10) (V c main_call0_v11) := by
  refine (dat1 V c).arrAt_eq_of_after_last 12 t0 (by decide +kernel) _ fun j => ?_
  blk_simp
  rw [after1_12]
  frame_out
  idx_vars j
  exact body_values (read0 V c t0) (read1 V c t0) (read2 V c t0) (read3 V c t0) (read4 V c t0) (read5 V c t0) (read6 V c t0)
    (read7 V c t0) (read8 V c t0) (read9 V c t0) (read10 V c t0) (read11 V c t0) _

/-- The value it leaves for environment `b`. -/
theorem values_at (r : FVec Ideal S1024x256 .f32) (x0 : FVec Ideal S1024x128 .f32) (x8 : FVec Ideal S256x256 .f32)
    (y9 : FVec Ideal S1x256 .f32) (y10 y11 : FVec Ideal S1x384 .f32) (x12 : FVec Ideal S384x256 .f32) (y13 : FVec Ideal S1x256 .f32)
    (x14 : FVec Ideal S256x256 .f32) (y15 y16 : FVec Ideal S1x256 .f32) (y17 : FVec Ideal S1x1 .f32) (b : Fin 1024) :
    values r x0 x8 y9 y10 y11 x12 y13 x14 y15 y16 y17 (ix2 0 b)
      = value (normedRsqrt (fun k => x0 (ix2 b k)) (feats (fun e => r (ix2 b e)) (fun e h => x8 (ix2 e h)) fun h => y9 (ix2 0 h))
            (fun k => y10 (ix2 0 k)) (fun k => y11 (ix2 0 k)))
          (fun k y => x12 (ix2 k y)) (fun y => y13 (ix2 0 y)) (fun y x => x14 (ix2 y x)) (fun x => y15 (ix2 0 x))
          (fun x => y16 (ix2 0 x)) (y17 (ix2 0 0)) := by
  unfold values
  rw [value_at]
  simp only [normed_at]

end Cert.KernelIdeal.Region1

end
-- ==== Proof.Entry.lean ====
/- What the kernel's arrays hold where its two regions read them: the arguments as they are, and the arrays the host
   operations make of them (two transposes, a third at the end, and reshapes of rows), read at an index. -/
module

public import proofs.«01_k».proof.Proof.Gen.KernelIdeal.Frame
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.KernelIdeal.Entry

open Cert.KernelIdeal Cert.KernelIdeal.Gen

variable (m : (ℓ : Loc nD τ sig) → Buf (Elt Ideal) ℓ) (ρ : Dev nD → PrngReg) (c : Dev nD)

/-- The first region reads every argument as it was handed in. -/
theorem arg1 : ∀ a ∈ argRefs, V1 m ρ c a = m ((c : Thread nD τ).loc a) := W1_args m ρ c

/-- So does the second. -/
theorem arg3 : ∀ a ∈ argRefs, V3 m ρ c a = m ((c : Thread nD τ).loc a) := W3_args m ρ c

/-- The adjacency, environments last. -/
theorem adj (i k : Fin 64) (b : Fin 1024) : (V1 m ρ c main_call0_v0 : FVec Ideal S64x64x1024 .f32) (ix3 i k b)
    = (m ((c : Thread nD τ).loc main_arg2) : FVec Ideal S1024x64x64 .f32) (ix3 b i k) := by
  show StableHlo.after hostOps0 (W0 m ρ c) (Proc.devRef .tc main_call0_v0) (ix3 i k b) = _
  unfold_abbrev_sides
  after_results
  show transpose S64x64x1024 [1, 2, 0] (m ((c : Thread nD τ).loc main_arg2) : FVec Ideal S1024x64x64 .f32) transposes_S1024x64x64_S64x64x1024_1_2_0 (ix3 i k b) = _
  pointwise

/-- The agents, as a row. -/
theorem agent (b : Fin 1024) : (V1 m ρ c main_call0_v1 : IVec S1x1024 32) (ix2 0 b)
    = (m ((c : Thread nD τ).loc main_arg3) : IVec S1024x1 32) (ix2 b 0) := by
  show StableHlo.after hostOps0 (W0 m ρ c) (Proc.devRef .tc main_call0_v1) (ix2 0 b) = _
  unfold_abbrev_sides
  after_results
  show transpose S1x1024 [1, 0] (m ((c : Thread nD τ).loc main_arg3) : IVec S1024x1 32) transposes_S1024x1_S1x1024_1_0 (ix2 0 b) = _
  pointwise

/-- The embedding's bias, as a row. -/
theorem embBias (h : Fin 256) : (V1 m ρ c main_call0_v2 : FVec Ideal S1x256 .f32) (ix2 0 h)
    = (m ((c : Thread nD τ).loc main_arg5) : FVec Ideal S256 .f32) (ix1 h) := by
  show StableHlo.after hostOps0 (W0 m ρ c) (Proc.devRef .tc main_call0_v2) (ix2 0 h) = _
  unfold_abbrev_sides
  after_results
  pointwise

/-- The first layer's bias, as a row. -/
theorem convBias (h : Fin 256) : (V1 m ρ c main_call0_v3 : FVec Ideal S1x256 .f32) (ix2 0 h)
    = (m ((c : Thread nD τ).loc main_arg7) : FVec Ideal S256 .f32) (ix1 h) := by
  show StableHlo.after hostOps0 (W0 m ρ c) (Proc.devRef .tc main_call0_v3) (ix2 0 h) = _
  unfold_abbrev_sides
  after_results
  pointwise

/-- The second layer's bias, as a row. -/
theorem nodeBias (h : Fin 256) : (V3 m ρ c main_call0_v5 : FVec Ideal S1x256 .f32) (ix2 0 h)
    = (m ((c : Thread nD τ).loc main_arg9) : FVec Ideal S256 .f32) (ix1 h) := by
  show StableHlo.after hostOps1 (W2 m ρ c) (Proc.devRef .tc main_call0_v5) (ix2 0 h) = _
  unfold_abbrev_sides
  after_results
  rw [W2_args m ρ c main_arg9 (by decide)]
  pointwise

/-- The normalisation's scale, as a row. -/
theorem scale (h : Fin 384) : (V3 m ρ c main_call0_v6 : FVec Ideal S1x384 .f32) (ix2 0 h)
    = (m ((c : Thread nD τ).loc main_arg10) : FVec Ideal S384 .f32) (ix1 h) := by
  show StableHlo.after hostOps1 (W2 m ρ c) (Proc.devRef .tc main_call0_v6) (ix2 0 h) = _
  unfold_abbrev_sides
  after_results
  rw [W2_args m ρ c main_arg10 (by decide)]
  pointwise

/-- The normalisation's shift, as a row. -/
theorem shift (h : Fin 384) : (V3 m ρ c main_call0_v7 : FVec Ideal S1x384 .f32) (ix2 0 h)
    = (m ((c : Thread nD τ).loc main_arg11) : FVec Ideal S384 .f32) (ix1 h) := by
  show StableHlo.after hostOps1 (W2 m ρ c) (Proc.devRef .tc main_call0_v7) (ix2 0 h) = _
  unfold_abbrev_sides
  after_results
  rw [W2_args m ρ c main_arg11 (by decide)]
  pointwise

/-- The head's first bias, as a row. -/
theorem bias1 (h : Fin 256) : (V3 m ρ c main_call0_v8 : FVec Ideal S1x256 .f32) (ix2 0 h)
    = (m ((c : Thread nD τ).loc main_arg13) : FVec Ideal S256 .f32) (ix1 h) := by
  show StableHlo.after hostOps1 (W2 m ρ c) (Proc.devRef .tc main_call0_v8) (ix2 0 h) = _
  unfold_abbrev_sides
  after_results
  rw [W2_args m ρ c main_arg13 (by decide)]
  pointwise

/-- The head's second bias, as a row. -/
theorem bias2 (h : Fin 256) : (V3 m ρ c main_call0_v9 : FVec Ideal S1x256 .f32) (ix2 0 h)
    = (m ((c : Thread nD τ).loc main_arg15) : FVec Ideal S256 .f32) (ix1 h) := by
  show StableHlo.after hostOps1 (W2 m ρ c) (Proc.devRef .tc main_call0_v9) (ix2 0 h) = _
  unfold_abbrev_sides
  after_results
  rw [W2_args m ρ c main_arg15 (by decide)]
  pointwise

/-- The head's last weights, as a row. -/
theorem valueWeights (h : Fin 256) : (V3 m ρ c main_call0_v10 : FVec Ideal S1x256 .f32) (ix2 0 h)
    = (m ((c : Thread nD τ).loc main_arg16) : FVec Ideal S256x1 .f32) (ix2 h 0) := by
  show StableHlo.after hostOps1 (W2 m ρ c) (Proc.devRef .tc main_call0_v10) (ix2 0 h) = _
  unfold_abbrev_sides
  after_results
  rw [W2_args m ρ c main_arg16 (by decide)]
  show transpose S1x256 [1, 0] (m ((c : Thread nD τ).loc main_arg16) : FVec Ideal S256x1 .f32) transposes_S256x1_S1x256_1_0 (ix2 0 h) = _
  pointwise

/-- The head's last bias. -/
theorem valueBias  : (V3 m ρ c main_call0_v11 : FVec Ideal S1x1 .f32) (ix2 0 0)
    = (m ((c : Thread nD τ).loc main_arg17) : FVec Ideal S1 .f32) (ix1 0) := by
  show StableHlo.after hostOps1 (W2 m ρ c) (Proc.devRef .tc main_call0_v11) (ix2 0 0) = _
  unfold_abbrev_sides
  after_results
  rw [W2_args m ρ c main_arg17 (by decide)]
  pointwise

/-- The result is the second region's row, as a column. -/
theorem result (b : Fin 1024) : (W5 m ρ c (Proc.devRef .tc main_v0) : FVec Ideal S1024x1 .f32) (ix2 b 0)
    = ((dat1 (V3 m ρ) c).arrAt 12 cfg1.N : FVec Ideal S1x1024 .f32) (ix2 0 b) := by
  rw [← W4_arr m ρ c 12]
  show StableHlo.after hostOps2 (W4 m ρ c) (Proc.devRef .tc main_v0) (ix2 b 0) = _
  unfold_abbrev_sides
  after_results
  show transpose S1024x1 [1, 0] (W4 m ρ c (Proc.devRef .tc main_call0_v12) : FVec Ideal S1x1024 .f32) transposes_S1x1024_S1024x1_1_0 (ix2 b 0) = _
  pointwise

/-- The second region reads the rows the first one leaves. -/
theorem rows_entry : V3 m ρ c main_call0_v4 = (dat0 (V1 m ρ) c).arrAt 7 cfg0.N :=
  (W3_of m ρ c main_call0_v4 (by decide)).trans (W2_arr m ρ c 7)

end Cert.KernelIdeal.Entry

end
-- ==== Proof.KernelValue.lean ====
/- What the kernel's result array holds at the end of its run, of the argument arrays. -/
module

public import proofs.«01_k».proof.Proof.Region0
public import proofs.«01_k».proof.Proof.Region1
public import proofs.«01_k».proof.Proof.Entry

@[expose] public section

set_option maxRecDepth 16384

noncomputable section

open Idealize.ShloMosaic Idealize.ShloMosaic.TcCoe Idealize.SL.Sem

namespace Cert.KernelIdeal.KernelValue

open Cert.KernelIdeal Cert.KernelIdeal.Gen GnnHead

/-- What the kernel returns for environment `b`, which asks for node `a`, of the argument arrays. -/
def kernelValue (x0 : FVec Ideal S1024x128 .f32) (x1 : FVec Ideal S1024x64x128 .f32) (x2 : FVec Ideal S1024x64x64 .f32)
    (x4 : FVec Ideal S128x256 .f32) (x5 : FVec Ideal S256 .f32) (x6 : FVec Ideal S256x256 .f32) (x7 : FVec Ideal S256 .f32)
    (x8 : FVec Ideal S256x256 .f32) (x9 : FVec Ideal S256 .f32) (x10 x11 : FVec Ideal S384 .f32) (x12 : FVec Ideal S384x256 .f32)
    (x13 : FVec Ideal S256 .f32) (x14 : FVec Ideal S256x256 .f32) (x15 : FVec Ideal S256 .f32) (x16 : FVec Ideal S256x1 .f32)
    (x17 : FVec Ideal S1 .f32) (b : Fin 1024) (a : Fin 64) : EReal :=
  value (normedRsqrt (fun k => x0 (ix2 b k))
      (feats (gathered (fun n d => x1 (ix3 b n d)) (fun i k => x2 (ix3 b i k)) a (fun d h => x4 (ix2 d h)) (fun h => x5 (ix1 h))
        (fun e h => x6 (ix2 e h)) (fun h => x7 (ix1 h))) (fun e h => x8 (ix2 e h)) fun h => x9 (ix1 h))
      (fun k => x10 (ix1 k)) (fun k => x11 (ix1 k)))
    (fun k y => x12 (ix2 k y)) (fun y => x13 (ix1 y)) (fun y x => x14 (ix2 y x)) (fun x => x15 (ix1 x))
    (fun x => x16 (ix2 x 0)) (x17 (ix1 0))

/-- Two rows of equal inputs are equal. -/
theorem gathered_congr {X X' : Mat 64 128} {A A' : Mat 64 64} {a : Fin 64} {We We' : Mat 128 256} {be be' : Row 256} {W W' : Mat 256 256}
    {b b' : Row 256} (hX : ∀ n d, X n d = X' n d) (hA : ∀ i k, A i k = A' i k) (hWe : ∀ d h, We d h = We' d h)
    (hbe : ∀ h, be h = be' h) (hW : ∀ e h, W e h = W' e h) (hb : ∀ h, b h = b' h) (e : Fin 256) :
    gathered X A a We be W b e = gathered X' A' a We' be' W' b' e := by
  rw [funext fun n => funext (hX n), funext fun i => funext (hA i), funext fun d => funext (hWe d), funext hbe,
    funext fun e => funext (hW e), funext hb]

/-- Two values of equal inputs are equal. -/
theorem value_congr {u u' : Row 128} {r r' : Row 256} {W W' : Mat 256 256} {b b' : Row 256} {g g' s s' : Row 384} {W1 W1' : Mat 384 256}
    {b1 b1' : Row 256} {W2 W2' : Mat 256 256} {b2 b2' Wv Wv' : Row 256} {bv bv' : EReal} (hu : ∀ k, u k = u' k) (hr : ∀ e, r e = r' e)
    (hW : ∀ e h, W e h = W' e h) (hb : ∀ h, b h = b' h) (hg : ∀ k, g k = g' k) (hs : ∀ k, s k = s' k)
    (hW1 : ∀ k y, W1 k y = W1' k y) (hb1 : ∀ y, b1 y = b1' y) (hW2 : ∀ y x, W2 y x = W2' y x) (hb2 : ∀ x, b2 x = b2' x)
    (hWv : ∀ x, Wv x = Wv' x) (hbv : bv = bv') :
    value (normedRsqrt u (feats r W b) g s) W1 b1 W2 b2 Wv bv = value (normedRsqrt u' (feats r' W' b') g' s') W1' b1' W2' b2' Wv' bv' := by
  rw [funext hu, funext hr, funext fun e => funext (hW e), funext hb, funext hg, funext hs, funext fun k => funext (hW1 k),
    funext hb1, funext fun y => funext (hW2 y), funext hb2, funext hWv, hbv]

variable (m : (ℓ : Loc nD τ sig) → Buf (Elt Ideal) ℓ) (ρ : Dev nD → PrngReg) (c : Dev nD)

/-- The row of environment `b` the second region reads. -/
theorem row_at (a : Fin 1024 → Fin 64)
    (ha : ∀ b : Fin 1024, (m ((c : Thread nD τ).loc main_arg3) : IVec S1024x1 32) (ix2 b 0) = BitVec.ofNat 32 (a b).val)
    (b : Fin 1024) (e : Fin 256) :
    (V3 m ρ c main_call0_v4 : FVec Ideal S1024x256 .f32) (ix2 b e)
      = gathered (fun n d => (m ((c : Thread nD τ).loc main_arg1) : FVec Ideal S1024x64x128 .f32) (ix3 b n d))
          (fun i k => (m ((c : Thread nD τ).loc main_arg2) : FVec Ideal S1024x64x64 .f32) (ix3 b i k)) (a b)
          (fun d h => (m ((c : Thread nD τ).loc main_arg4) : FVec Ideal S128x256 .f32) (ix2 d h))
          (fun h => (m ((c : Thread nD τ).loc main_arg5) : FVec Ideal S256 .f32) (ix1 h))
          (fun e h => (m ((c : Thread nD τ).loc main_arg6) : FVec Ideal S256x256 .f32) (ix2 e h))
          (fun h => (m ((c : Thread nD τ).loc main_arg7) : FVec Ideal S256 .f32) (ix1 h)) e := by
  rw [Entry.rows_entry, Region0.array0 (V1 m ρ) c a fun b => (Entry.agent m ρ c b).trans (ha b)]
  rw [Region0.rows_at, Entry.arg1 m ρ c main_arg1 (by decide), Entry.arg1 m ρ c main_arg4 (by decide), Entry.arg1 m ρ c main_arg6 (by decide)]
  exact gathered_congr (fun _ _ => rfl) (Entry.adj m ρ c · · b) (fun _ _ => rfl) (Entry.embBias m ρ c) (fun _ _ => rfl)
    (Entry.convBias m ρ c) e

/-- The kernel's result for environment `b`. -/
theorem result_at (a : Fin 1024 → Fin 64)
    (ha : ∀ b : Fin 1024, (m ((c : Thread nD τ).loc main_arg3) : IVec S1024x1 32) (ix2 b 0) = BitVec.ofNat 32 (a b).val)
    (b : Fin 1024) :
    (W5 m ρ c (Proc.devRef .tc main_v0) : FVec Ideal S1024x1 .f32) (ix2 b 0)
      = kernelValue (m ((c : Thread nD τ).loc main_arg0)) (m ((c : Thread nD τ).loc main_arg1)) (m ((c : Thread nD τ).loc main_arg2))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12))
          (m ((c : Thread nD τ).loc main_arg13)) (m ((c : Thread nD τ).loc main_arg14)) (m ((c : Thread nD τ).loc main_arg15))
          (m ((c : Thread nD τ).loc main_arg16)) (m ((c : Thread nD τ).loc main_arg17)) b (a b) := by
  rw [Entry.result, Region1.array1, Region1.values_at]
  rw [Entry.arg3 m ρ c main_arg0 (by decide), Entry.arg3 m ρ c main_arg8 (by decide), Entry.arg3 m ρ c main_arg12 (by decide),
    Entry.arg3 m ρ c main_arg14 (by decide)]
  exact value_congr (fun _ => rfl) (row_at m ρ c a ha b) (fun _ _ => rfl) (Entry.nodeBias m ρ c) (Entry.scale m ρ c)
    (Entry.shift m ρ c) (fun _ _ => rfl) (Entry.bias1 m ρ c) (fun _ _ => rfl) (Entry.bias2 m ρ c) (Entry.valueWeights m ρ c)
    (Entry.valueBias m ρ c)

end Cert.KernelIdeal.KernelValue

end
-- ==== Proof.Consts.lean ====
/- The three stored constants as real numbers. -/
module

public import proofs.«01_k».proof.Proof.Spec

@[expose] public section

noncomputable section

namespace GnnHead

open Idealize.ShloMosaic

/-- The stored width is exactly `384`. -/
theorem width_eq : width = ((384 : ℝ) : EReal) := by
  simp [width, Ideal.ofBits, Ideal.ieee, -EReal.coe_mul]; norm_num

/-- The degree's floor is a positive real. -/
theorem degFloor_pos : ∃ r : ℝ, degFloor = (r : EReal) ∧ 0 < r :=
  ⟨8796093 * (2 : ℝ) ^ (-43 : ℤ), by simp [degFloor, Ideal.ofBits, Ideal.ieee, -EReal.coe_mul], by positivity⟩

/-- The normalisation's `1e-5` is a positive real. -/
theorem lnEps_pos : ∃ r : ℝ, lnEps = (r : EReal) ∧ 0 < r :=
  ⟨10995116 * (2 : ℝ) ^ (-40 : ℤ), by simp [lnEps, Ideal.ofBits, Ideal.ieee, -EReal.coe_mul], by positivity⟩

/-- The pattern of `+∞` denotes `⊤`. -/
theorem inf_eq : Ideal.ofBits .f32 0x7F800000#32 = ⊤ := by
  simp [Ideal.ofBits, Ideal.ieee]

end GnnHead

end
-- ==== Proof.RefRead.lean ====
/- What the reference computes, read at an index: the features of every node, the row of the node asked for, the
   normalised features, the value. -/
module

public import proofs.«01_k».proof.Proof.Gen.ReferenceIdeal.Read
public import proofs.«01_k».proof.Proof.Consts

@[expose] public section

set_option maxRecDepth 16384

noncomputable section

open Idealize.ShloMosaic Idealize.ShloMosaic.TcCoe Idealize.SL.Sem

namespace Cert.ReferenceIdeal.RefRead

open Cert.ReferenceIdeal Cert.ReferenceIdeal.Gen Cert.ReferenceIdeal.Read GnnHead

section
variable (x0 : FVec Ideal S1024x128 .f32) (x1 : FVec Ideal S1024x64x128 .f32) (x2 : FVec Ideal S1024x64x64 .f32)
  (x3 : IVec S1024x1 32) (x4 : FVec Ideal S128x256 .f32) (x5 : FVec Ideal S256 .f32) (x6 : FVec Ideal S256x256 .f32)
  (x7 : FVec Ideal S256 .f32) (x8 : FVec Ideal S256x256 .f32) (x9 : FVec Ideal S256 .f32) (x10 x11 : FVec Ideal S384 .f32)
  (x12 : FVec Ideal S384x256 .f32) (x13 : FVec Ideal S256 .f32) (x14 : FVec Ideal S256x256 .f32) (x15 : FVec Ideal S256 .f32)
  (x16 : FVec Ideal S256x1 .f32) (x17 : FVec Ideal S1 .f32)

/-- The features of node `i` of environment `b`. -/
theorem nodes_at (b : Fin 1024) (i : Fin 64) (h : Fin 256) :
    val_main_v22 (F := Ideal) x1 x2 x4 x5 x6 x7 x8 x9 (ix3 b i h)
      = nodeFeats (fun n d => x1 (ix3 b n d)) (fun i j => x2 (ix3 b i j)) (fun d h => x4 (ix2 d h)) (fun h => x5 (ix1 h))
          (fun e h => x6 (ix2 e h)) (fun h => x7 (ix1 h)) (fun e h => x8 (ix2 e h)) (fun h => x9 (ix1 h)) i h := by
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_v20, val_main_v21, val_main_v22, val_main_cst,
    val_main_cst_0, val_main_call0_cst, val_main_call0_v0, val_main_call1_cst, val_main_call1_v0, val_main_call2_cst,
    val_main_call2_v0]
  rfl

/-! ## The gather -/

/-- The word of a number below `2^31` is not negative, and reads as that number. -/
theorem toInt_word (n : ℕ) (hn : n < 2 ^ 31) : (BitVec.ofNat 32 n).toInt = n := by
  rw [BitVec.toInt_eq_toNat_of_lt (by rw [BitVec.toNat_ofNat]; omega), BitVec.toNat_ofNat, Nat.mod_eq_of_lt (by omega)]

/-- The wrap of a negative index leaves an index that is not negative as it is. -/
theorem wrap_word (n : ℕ) (hn : n < 2 ^ 31) (y : BitVec 32) :
    Scalar.select (IntOp.cmpi CmpIPredicate.slt (BitVec.ofNat 32 n) 0#32) y (BitVec.ofNat 32 n) = BitVec.ofNat 32 n := by
  have h : IntOp.cmpi CmpIPredicate.slt (BitVec.ofNat 32 n) 0#32 = 0#1 := by
    have : (BitVec.ofNat 32 n).slt 0#32 = false := by
      rw [BitVec.slt, toInt_word n hn]
      simp
    simp [IntOp.cmpi, this]
  rw [h]
  rfl

/-- The first start index of environment `b` is `b`. -/
theorem start0 (b : Fin 1024) : val_main_v37 (F := Ideal) x3 (ix2 b 0) = BitVec.ofNat 32 b.val := by
  pointwise [val_main_v37, val_main_v35, val_main_v36, val_main_v29, val_main_v28, val_main_v27, val_main_v26, val_main_v25,
    val_main_v23, val_main_c, val_main_c_1]
  exact wrap_word _ (by omega) _

/-- The second start index of environment `b` is the agent it asks for. -/
theorem start1 (b : Fin 1024) (a : Fin 64) (ha : x3 (ix2 b 0) = BitVec.ofNat 32 a.val) :
    val_main_v37 (F := Ideal) x3 (ix2 b 1) = BitVec.ofNat 32 a.val := by
  pointwise [val_main_v37, val_main_v36, val_main_v34, val_main_v33, val_main_v32, val_main_v31, val_main_v30, val_main_v24,
    val_main_c_2, val_main_c_3]
  rw [ha]
  exact wrap_word _ (by omega) _

/-- The feature axis is the operand's only axis that is not collapsed, and lands on the result's second axis. -/
theorem offset_pos : gather_S1024x64x256_S1024x2_S1024x256_1_01_n_n_01_1_11256.offsetDims[
    gather_S1024x64x256_S1024x2_S1024x256_1_01_n_n_01_1_11256.sKept.idxOf (⟨2, by decide⟩ : Fin 3)]'(by decide) = (1 : Fin 2) := by
  decide

/-- The gather of one row per environment: environment `b` reads row `(i, j)` of the operand, where its two start
    indices are the words of `i` and `j`. -/
theorem gather_at (x : FVec Ideal S1024x64x256 .f32) (idx : IVec S1024x2 32) (b : Fin 1024) (h : Fin 256) (i : Fin 1024) (j : Fin 64)
    (hi : idx (ix2 b 0) = BitVec.ofNat 32 i.val) (hj : idx (ix2 b 1) = BitVec.ofNat 32 j.val) :
    Host.gather gather_S1024x64x256_S1024x2_S1024x256_1_01_n_n_01_1_11256 x idx (ix2 b h) = x (ix3 i j h) := by
  set d := gather_S1024x64x256_S1024x2_S1024x256_1_01_n_n_01_1_11256 with hd
  have hs0 : d.siIdx (ix2 b h) ⟨0, by decide⟩ = ix2 b 0 := by
    funext k; refine Fin.ext ?_
    match k with
    | ⟨0, _⟩ => rfl
    | ⟨1, _⟩ => rfl
  have hs1 : d.siIdx (ix2 b h) ⟨1, by decide⟩ = ix2 b 1 := by
    funext k; refine Fin.ext ?_
    match k with
    | ⟨0, _⟩ => rfl
    | ⟨1, _⟩ => rfl
  have hb : ∀ k, d.batchCoord (ix2 b h) k = 0 := fun k => d.batchCoord_eq_zero _ _ List.not_mem_nil
  unfold Host.gather
  refine congrArg x (funext fun k => Fin.ext ?_)
  show d.start (ix2 b h) idx k + d.batchCoord (ix2 b h) k + d.offCoord (ix2 b h) k = _
  rw [hb]
  match k with
  | ⟨0, _⟩ =>
    rw [d.offCoord_eq_zero _ _ (show (⟨0, by decide⟩ : Fin 3) ∉ d.sKept by decide)]
    unfold GatherDims.start
    rw [dif_pos (show (⟨0, by decide⟩ : Fin 3) ∈ d.startIndexMap by decide)]
    show min (idx (d.siIdx (ix2 b h) ⟨0, _⟩)).toInt.toNat (1024 - 1) + 0 + 0 = i.val
    rw [hs0, hi, toInt_word _ (by omega)]
    omega
  | ⟨1, _⟩ =>
    rw [d.offCoord_eq_zero _ _ (show (⟨1, by decide⟩ : Fin 3) ∉ d.sKept by decide)]
    unfold GatherDims.start
    rw [dif_pos (show (⟨1, by decide⟩ : Fin 3) ∈ d.startIndexMap by decide)]
    show min (idx (d.siIdx (ix2 b h) ⟨1, _⟩)).toInt.toNat (64 - 1) + 0 + 0 = j.val
    rw [hs1, hj, toInt_word _ (by omega)]
    omega
  | ⟨2, _⟩ =>
    unfold GatherDims.start
    rw [dif_neg (show (⟨2, by decide⟩ : Fin 3) ∉ d.startIndexMap by decide)]
    show 0 + 0 + d.offCoord (ix2 b h) ⟨2, _⟩ = h.val
    unfold GatherDims.offCoord
    rw [dif_pos (show (⟨2, by decide⟩ : Fin 3) ∈ d.sKept by decide)]
    have hcol : ∀ k : Fin 2, k = 1 → (ix2 b h k).val = h.val := by rintro _ rfl; rfl
    rw [hcol _ offset_pos]
    omega

/-- The row gathered for environment `b` is the features of the node it asks for. -/
theorem row_at (b : Fin 1024) (h : Fin 256) (a : Fin 64) (ha : x3 (ix2 b 0) = BitVec.ofNat 32 a.val) :
    val_main_v38 (F := Ideal) x1 x2 x3 x4 x5 x6 x7 x8 x9 (ix2 b h)
      = nodeFeats (fun n d => x1 (ix3 b n d)) (fun i j => x2 (ix3 b i j)) (fun d h => x4 (ix2 d h)) (fun h => x5 (ix1 h))
          (fun e h => x6 (ix2 e h)) (fun h => x7 (ix1 h)) (fun e h => x8 (ix2 e h)) (fun h => x9 (ix1 h)) a h := by
  unfold val_main_v38
  rw [gather_at _ _ b h b a (start0 x3 b) (start1 x3 b a ha)]
  exact nodes_at x1 x2 x4 x5 x6 x7 x8 x9 b a h

/-! ## The normalisation and the head -/

/-- The variance's divisor, `384 - 0`, is the width, and is positive. -/
theorem divisor_eq : (width - FloatOps.sitofp (F := Ideal) FTy.f32 0#32 : EReal) = width := by
  show width - (((0#32 : BitVec 32).toInt : ℝ) : EReal) = width
  simp

theorem width_pos : (0 : EReal) < width := by
  rw [width_eq]
  exact_mod_cast (by norm_num : (0 : ℝ) < 384)

/-- The normalised features of environment `b`, from its gathered row. -/
theorem normed_at (f : FVec Ideal S1024x256 .f32) (hf : val_main_v38 (F := Ideal) x1 x2 x3 x4 x5 x6 x7 x8 x9 = f) (b : Fin 1024)
    (k : Fin 384) :
    val_main_v57 (F := Ideal) x0 x1 x2 x3 x4 x5 x6 x7 x8 x9 x10 x11 (ix2 b k)
      = normedSqrt (fun k => x0 (ix2 b k)) (fun h => f (ix2 b h)) (fun k => x10 (ix1 k)) (fun k => x11 (ix1 k)) k := by
  pointwise [hf, val_main_v39, val_main_v40, val_main_v41, val_main_v42, val_main_v43, val_main_v44, val_main_v45, val_main_v46,
    val_main_v47, val_main_v48, val_main_v49, val_main_v50, val_main_v51, val_main_v52, val_main_v53, val_main_v54, val_main_v55,
    val_main_v56, val_main_v57, val_main_cst_4, val_main_cst_5, val_main_c_6, val_main_cst_7, val_main_call3_cst,
    val_main_call3_cst_0, val_main_call3_cst_1, val_main_call3_cst_2, val_main_call3_cst_3, val_main_call3_cst_4,
    val_main_call3_v0, val_main_call3_v1, val_main_call3_v2, val_main_call3_v3, val_main_call3_v4, val_main_call3_v5,
    val_main_call3_v6, val_main_call3_v7, val_main_call3_v8, val_main_call3_v9, val_main_call3_v10, val_main_call3_v11,
    val_main_call3_v12, val_main_call3_v13, val_main_call3_call0_v0, val_main_call3_call0_v1]
  rw [show Ideal.ofBits FTy.f32 1136656384#32 = width from rfl, divisor_eq, if_pos width_pos]
  rfl

/-- The value of environment `b`, from its normalised features. -/
theorem value_at (z : FVec Ideal S1024x384 .f32)
    (hz : val_main_v57 (F := Ideal) x0 x1 x2 x3 x4 x5 x6 x7 x8 x9 x10 x11 = z) (b : Fin 1024) :
    val_main_v71 (F := Ideal) x0 x1 x2 x3 x4 x5 x6 x7 x8 x9 x10 x11 x12 x13 x14 x15 x16 x17 (ix2 b 0)
      = value (fun k => z (ix2 b k)) (fun k y => x12 (ix2 k y)) (fun y => x13 (ix1 y)) (fun y x => x14 (ix2 y x))
          (fun x => x15 (ix1 x)) (fun x => x16 (ix2 x 0)) (x17 (ix1 0)) := by
  pointwise [hz, val_main_v58, val_main_v59, val_main_v60, val_main_v61, val_main_v62, val_main_v63, val_main_v64, val_main_v65,
    val_main_v66, val_main_v67, val_main_v68, val_main_v69, val_main_v70, val_main_v71, val_main_call4_cst, val_main_call4_v0,
    val_main_call5_cst, val_main_call5_v0]
  rfl

/-- What the reference returns for environment `b`, which asks for node `a`. -/
theorem result_at (b : Fin 1024) (a : Fin 64) (ha : x3 (ix2 b 0) = BitVec.ofNat 32 a.val) :
    val_main_v71 (F := Ideal) x0 x1 x2 x3 x4 x5 x6 x7 x8 x9 x10 x11 x12 x13 x14 x15 x16 x17 (ix2 b 0)
      = value (normedSqrt (fun k => x0 (ix2 b k))
            (nodeFeats (fun n d => x1 (ix3 b n d)) (fun i j => x2 (ix3 b i j)) (fun d h => x4 (ix2 d h)) (fun h => x5 (ix1 h))
              (fun e h => x6 (ix2 e h)) (fun h => x7 (ix1 h)) (fun e h => x8 (ix2 e h)) (fun h => x9 (ix1 h)) a)
            (fun k => x10 (ix1 k)) (fun k => x11 (ix1 k)))
          (fun k y => x12 (ix2 k y)) (fun y => x13 (ix1 y)) (fun y x => x14 (ix2 y x)) (fun x => x15 (ix1 x))
          (fun x => x16 (ix2 x 0)) (x17 (ix1 0)) := by
  refine (value_at x0 x1 x2 x3 x4 x5 x6 x7 x8 x9 x10 x11 x12 x13 x14 x15 x16 x17 _ rfl b).trans
    (congrArg (fun z => value z _ _ _ _ _ _) (funext fun k => ?_))
  refine (normed_at x0 x1 x2 x3 x4 x5 x6 x7 x8 x9 x10 x11 _ rfl b k).trans
    (congrArg (fun f => normedSqrt _ f _ _ k) (funext fun h => ?_))
  exact row_at x1 x2 x3 x4 x5 x6 x7 x8 x9 b h a ha

end

end Cert.ReferenceIdeal.RefRead

end
-- ==== Proof.Finite.lean ====
/- Which extended reals are real numbers, and how sums and products of such behave: the extended reals are no ring, so
   every law used on them is a law of ℝ read through this file. -/
module

public import proofs.«01_k».proof.Proof.Consts

@[expose] public section

noncomputable section

namespace GnnHead

open Idealize.ShloMosaic

/-- `x` is a real number. -/
def IsReal (x : EReal) : Prop := ∃ r : ℝ, x = (r : EReal)

/-- The coercion of a finite sum of reals. -/
theorem coe_fsum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_add {x y : EReal} (hx : IsReal x) (hy : IsReal y) : IsReal (x + y) := by
  obtain ⟨a, rfl⟩ := hx; obtain ⟨b, rfl⟩ := hy; exact ⟨a + b, (EReal.coe_add a b).symm⟩

theorem real_mul {x y : EReal} (hx : IsReal x) (hy : IsReal y) : IsReal (x * y) := by
  obtain ⟨a, rfl⟩ := hx; obtain ⟨b, rfl⟩ := hy; exact ⟨a * b, (EReal.coe_mul a b).symm⟩

theorem real_max {x y : EReal} (hx : IsReal x) (hy : IsReal y) : IsReal (max x y) := by
  rcases max_choice x y with h | h <;> rw [h] <;> assumption

theorem real_zero : IsReal 0 := ⟨0, rfl⟩

theorem real_sum {ι : Type} (s : Finset ι) {f : ι → EReal} (hf : ∀ i, IsReal (f i)) : IsReal (∑ i ∈ s, f i) := by
  choose g hg using hf
  exact ⟨∑ i ∈ s, g i, by rw [coe_fsum]; exact Finset.sum_congr rfl fun i _ => hg i⟩

/-- A quotient by a nonzero real is a real quotient. -/
theorem div_real {a b : ℝ} (hb : b ≠ 0) : Ideal.div (a : EReal) (b : EReal) = ((a / b : ℝ) : EReal) := by
  rw [Ideal.div_coe hb, ← EReal.coe_mul, mul_one_div]

/-- A real number, as its absolute value below `⊤` says. -/
theorem real_of_abs_lt {x : EReal} (h : max x (-x) < ⊤) : IsReal x := by
  induction x with
  | bot => simp at h
  | top => simp at h
  | coe r => exact ⟨r, rfl⟩

end GnnHead

end
-- ==== Proof.PreFacts.lean ====
/- What the precondition says of the arguments: nine arrays hold real numbers, and every agent is a node. -/
module

public import proofs.«01_k».proof.Proof.Gen.Pre_finite_and_in_range
public import proofs.«01_k».proof.Proof.Finite
public import proofs.«01_k».proof.Proof.Consts
public import Idealize.ShloMosaic.Lib.ReduceAll

@[expose] public section

set_option maxRecDepth 16384

noncomputable section

open Idealize.ShloMosaic Idealize.ShloMosaic.TcCoe Idealize.SL.Sem

namespace Cert.Pre_finite_and_in_range.PreFacts

open Cert.Pre_finite_and_in_range GnnHead

instance : Subsingleton S_.Idx := ⟨fun i j => funext fun k => k.elim0⟩

/-- "The absolute value is below `+∞`", at an element: the element is a real number. -/
theorem real_of_cmp {S : Shape} (x : FVec Ideal S .f32) (hb : S_.BroadcastsInDim S (![] : Fin 0 → Fin S.rank)) (i : S.Idx)
    (h : cmpf (F := Ideal) .olt (Host.absf x) (broadcastInDim S ![] hb (constant S_ .f32 0x7F800000#32)) i = 1#1) : IsReal (x i) := by
  refine real_of_abs_lt ?_
  have h' : Ideal.cmp .olt (max (x i) (-(x i))) (Ideal.ofBits .f32 0x7F800000#32) = 1#1 := h
  rw [inf_eq] at h'
  by_contra hn
  simp [Ideal.cmp, hn] at h'

/-- "At least 0 and below 64", at a word: the word is that of a number below 64. -/
theorem node_of_cmp (w : BitVec 32) (h0 : IntOp.cmpi .sge w 0#32 = 1#1) (h1 : IntOp.cmpi .slt w 64#32 = 1#1) :
    ∃ a : Fin 64, w = BitVec.ofNat 32 a.val := by
  have h0' : (0 : ℤ) ≤ w.toInt := by
    by_contra hn
    simp [IntOp.cmpi, BitVec.sle, hn] at h0
  have h1' : w.toInt < 64 := by
    by_contra hn
    simp [IntOp.cmpi, BitVec.slt, hn] at h1
  have hw : w.toNat < 64 := by
    rw [BitVec.toInt_eq_toNat_cond] at h0' h1'
    split at h0' <;> omega
  exact ⟨⟨w.toNat, hw⟩, by simp⟩

variable (x0 : FVec Ideal S1024x128 .f32) (x1 : FVec Ideal S1024x64x128 .f32) (x2 : FVec Ideal S1024x64x64 .f32)
  (x3 : IVec S1024x1 32) (x4 : FVec Ideal S128x256 .f32) (x5 : FVec Ideal S256 .f32) (x6 : FVec Ideal S256x256 .f32)
  (x7 : FVec Ideal S256 .f32) (x8 : FVec Ideal S256x256 .f32) (x9 : FVec Ideal S256 .f32) (x10 x11 : FVec Ideal S384 .f32)
  (x12 : FVec Ideal S384x256 .f32) (x13 : FVec Ideal S256 .f32) (x14 : FVec Ideal S256x256 .f32) (x15 : FVec Ideal S256 .f32)
  (x16 : FVec Ideal S256x1 .f32) (x17 : FVec Ideal S1 .f32)

/-- The precondition, read back. -/
theorem facts_of_pre [Facts]
    (h : fn (F := Ideal) x0 x1 x2 x3 x4 x5 x6 x7 x8 x9 x10 x11 x12 x13 x14 x15 x16 x17 = fun _ => 1#1) :
    (∀ i, IsReal (x0 i)) ∧ (∀ i, IsReal (x1 i)) ∧ (∀ i, IsReal (x2 i)) ∧ (∀ i, IsReal (x4 i)) ∧ (∀ i, IsReal (x5 i))
      ∧ (∀ i, IsReal (x6 i)) ∧ (∀ i, IsReal (x7 i)) ∧ (∀ i, IsReal (x8 i)) ∧ (∀ i, IsReal (x9 i))
      ∧ ∃ a : Fin 1024 → Fin 64, ∀ b : Fin 1024, x3 (ix2 b 0) = BitVec.ofNat 32 (a b).val := by
  have e := congrFun h ix0
  simp only [fn, fn_part1, fn_part2] at e
  obtain ⟨e0, ha⟩ := IntOp.andi_eq_one.1 e
  clear e
  obtain ⟨e1, h9⟩ := IntOp.andi_eq_one.1 e0
  clear e0
  obtain ⟨e2, h8⟩ := IntOp.andi_eq_one.1 e1
  clear e1
  obtain ⟨e3, h7⟩ := IntOp.andi_eq_one.1 e2
  clear e2
  obtain ⟨e4, h6⟩ := IntOp.andi_eq_one.1 e3
  clear e3
  obtain ⟨e5, h5⟩ := IntOp.andi_eq_one.1 e4
  clear e4
  obtain ⟨e6, h4⟩ := IntOp.andi_eq_one.1 e5
  clear e5
  obtain ⟨e7, h2⟩ := IntOp.andi_eq_one.1 e6
  clear e6
  obtain ⟨h0, h1⟩ := IntOp.andi_eq_one.1 e7
  clear e7 h
  refine ⟨?_, ?_, ?_, ?_, ?_, ?_, ?_, ?_, ?_, ?_⟩
  · exact fun i => real_of_cmp x0 _ i (Host.reduce_andi_all _ _ _ _ _ h0 i)
  · exact fun i => real_of_cmp x1 _ i (Host.reduce_andi_all _ _ _ _ _ h1 i)
  · exact fun i => real_of_cmp x2 _ i (Host.reduce_andi_all _ _ _ _ _ h2 i)
  · exact fun i => real_of_cmp x4 _ i (Host.reduce_andi_all _ _ _ _ _ h4 i)
  · exact fun i => real_of_cmp x5 _ i (Host.reduce_andi_all _ _ _ _ _ h5 i)
  · exact fun i => real_of_cmp x6 _ i (Host.reduce_andi_all _ _ _ _ _ h6 i)
  · exact fun i => real_of_cmp x7 _ i (Host.reduce_andi_all _ _ _ _ _ h7 i)
  · exact fun i => real_of_cmp x8 _ i (Host.reduce_andi_all _ _ _ _ _ h8 i)
  · exact fun i => real_of_cmp x9 _ i (Host.reduce_andi_all _ _ _ _ _ h9 i)
  have hb : ∀ b : Fin 1024, ∃ a : Fin 64, x3 (ix2 b 0) = BitVec.ofNat 32 a.val := fun b => by
    obtain ⟨hge, hlt⟩ := IntOp.andi_eq_one.1 (Host.reduce_andi_all _ _ _ _ _ ha (ix2 b 0))
    exact node_of_cmp _ hge hlt
  choose a ha' using hb
  exact ⟨a, ha'⟩

end Cert.Pre_finite_and_in_range.PreFacts

end
-- ==== Proof.Equation.lean ====
/- The kernel's formulas and the reference's agree on finite inputs: the reciprocal against the quotient, the two orders
   of one convolution's products, the two variances, and the reciprocal root against the root. -/
module

public import proofs.«01_k».proof.Proof.Finite

@[expose] public section

noncomputable section

namespace GnnHead

open Idealize.ShloMosaic

/-! ## The graph -/

/-- The degree is not zero: it is at least the floor. -/
theorem deg_ne_zero (A : Mat 64 64) (i : Fin 64) : deg A i ≠ 0 := by
  obtain ⟨r, hr, hp⟩ := degFloor_pos
  have h0 : (0 : EReal) < degFloor := by rw [hr]; exact_mod_cast hp
  exact (lt_of_lt_of_le h0 (le_max_right _ _)).ne'

/-- Multiplying by the degree's reciprocal is dividing by the degree. -/
theorem scaled_eq (A : Mat 64 64) : scaled A = divided A := by
  funext i j
  exact Ideal.mul_one_div (deg_ne_zero A i)

theorem deg_real {A : Mat 64 64} (hA : ∀ i j, IsReal (A i j)) (i : Fin 64) : IsReal (deg A i) := by
  obtain ⟨r, hr, -⟩ := degFloor_pos
  exact real_max (real_sum _ fun j => hA i j) ⟨r, hr⟩

theorem divided_real {A : Mat 64 64} (hA : ∀ i j, IsReal (A i j)) (i j : Fin 64) : IsReal (divided A i j) := by
  obtain ⟨d, hd⟩ := deg_real hA i
  obtain ⟨a, ha⟩ := hA i j
  have hne : d ≠ 0 := fun h => deg_ne_zero A i (by rw [hd, h]; rfl)
  exact ⟨a / d, by unfold divided; rw [hd, ha, div_real hne]⟩

theorem embed_real {X : Mat 64 128} {We : Mat 128 256} {be : Row 256} (hX : ∀ n d, IsReal (X n d))
    (hW : ∀ d h, IsReal (We d h)) (hb : ∀ h, IsReal (be h)) (n : Fin 64) (h : Fin 256) : IsReal (embed X We be n h) :=
  real_max (real_add (real_sum _ fun d => real_mul (hX n d) (hW d h)) (hb h)) real_zero

theorem conv_real {N : Mat 64 64} {H : Mat 64 256} {W : Mat 256 256} {b : Row 256} (hN : ∀ i j, IsReal (N i j))
    (hH : ∀ i h, IsReal (H i h)) (hW : ∀ e h, IsReal (W e h)) (hb : ∀ h, IsReal (b h)) (i : Fin 64) (h : Fin 256) :
    IsReal (conv N H W b i h) :=
  real_max (real_add (real_sum _ fun e => real_mul (real_sum _ fun j => real_mul (hN i j) (hH j e)) (hW e h)) (hb h)) real_zero

/-- Three factors summed over two indices, in either order: on reals the product of matrices is associative. -/
theorem sum_assoc {J E : ℕ} {p : Row J} {H : Mat J E} {w : Row E} (hp : ∀ j, IsReal (p j)) (hH : ∀ j e, IsReal (H j e))
    (hw : ∀ e, IsReal (w e)) : ∑ j, p j * ∑ e, H j e * w e = ∑ e, (∑ j, p j * H j e) * w e := by
  choose p' hp' using hp
  choose H' hH' using hH
  choose w' hw' using hw
  simp only [hp', hH', hw', ← EReal.coe_mul, ← coe_fsum]
  refine congrArg _ ?_
  simp only [Finset.mul_sum, Finset.sum_mul]
  rw [Finset.sum_comm]
  exact Finset.sum_congr rfl fun e _ => Finset.sum_congr rfl fun j _ => (mul_assoc _ _ _).symm

/-- A convolution may apply its weights first. -/
theorem convWeightsFirst_eq {N : Mat 64 64} {H : Mat 64 256} {W : Mat 256 256} (b : Row 256) (hN : ∀ i j, IsReal (N i j))
    (hH : ∀ i h, IsReal (H i h)) (hW : ∀ e h, IsReal (W e h)) : convWeightsFirst N H W b = conv N H W b := by
  funext i h
  unfold convWeightsFirst conv
  rw [sum_assoc (hN i) hH fun e => hW e h]

/-- The kernel's graph features of the row it gathered are the reference's features of that node. -/
theorem feats_gathered {X : Mat 64 128} {A : Mat 64 64} (a : Fin 64) {We : Mat 128 256} {be : Row 256} {Wg1 : Mat 256 256}
    (bg1 : Row 256) (Wg2 : Mat 256 256) (bg2 : Row 256) (hX : ∀ n d, IsReal (X n d)) (hA : ∀ i j, IsReal (A i j))
    (hWe : ∀ d h, IsReal (We d h)) (hbe : ∀ h, IsReal (be h)) (hW1 : ∀ e h, IsReal (Wg1 e h)) :
    feats (gathered X A a We be Wg1 bg1) Wg2 bg2 = nodeFeats X A We be Wg1 bg1 Wg2 bg2 a := by
  funext h
  unfold feats gathered nodeFeats
  rw [scaled_eq, convWeightsFirst_eq bg1 (divided_real hA) (embed_real hX hWe hbe) hW1]
  rfl

theorem nodeFeats_real {X : Mat 64 128} {A : Mat 64 64} {We : Mat 128 256} {be : Row 256} {Wg1 : Mat 256 256}
    {bg1 : Row 256} {Wg2 : Mat 256 256} {bg2 : Row 256} (hX : ∀ n d, IsReal (X n d)) (hA : ∀ i j, IsReal (A i j))
    (hWe : ∀ d h, IsReal (We d h)) (hbe : ∀ h, IsReal (be h)) (hW1 : ∀ e h, IsReal (Wg1 e h)) (hb1 : ∀ h, IsReal (bg1 h))
    (hW2 : ∀ e h, IsReal (Wg2 e h)) (hb2 : ∀ h, IsReal (bg2 h)) (i : Fin 64) (h : Fin 256) :
    IsReal (nodeFeats X A We be Wg1 bg1 Wg2 bg2 i h) :=
  conv_real (divided_real hA) (conv_real (divided_real hA) (embed_real hX hWe hbe) hW1 hb1) hW2 hb2 i h

/-! ## The normalisation -/

/-- The variance of 128 and 256 reals together, computed either way. -/
theorem variance_real (u : Fin 128 → ℝ) (f : Fin 256 → ℝ) (μ : ℝ) (hμ : μ = (∑ k, u k + ∑ k, f k) / 384) :
    (∑ k, u k * u k + ∑ k, f k * f k) / 384 - μ * μ
      = (∑ k, (u k - μ) * (u k - μ) + ∑ k, (f k - μ) * (f k - μ)) / 384 := by
  have e : ∀ {n : ℕ} (g : Fin n → ℝ), ∑ k, (g k - μ) * (g k - μ) = ∑ k, g k * g k - 2 * μ * ∑ k, g k + n * (μ * μ) := by
    intro n g
    have h1 : ∀ k, (g k - μ) * (g k - μ) = g k * g k - 2 * μ * g k + μ * μ := fun k => by ring
    simp only [h1, Finset.sum_add_distrib, Finset.sum_sub_distrib, ← Finset.mul_sum, Finset.sum_const, Finset.card_univ,
      Fintype.card_fin, nsmul_eq_mul]
    ring
  rw [e, e]
  have hs : ∑ k, u k + ∑ k, f k = 384 * μ := by rw [hμ]; ring
  have hf : ∑ k, f k = 384 * μ - ∑ k, u k := by rw [← hs]; ring
  rw [hf]
  push_cast
  ring

/-- On reals the mean, both variances and the normalised features are reals, and the two normalisations are one. -/
theorem normed_eq {u : Row 128} {f : Row 256} (g be : Row 384) (hu : ∀ k, IsReal (u k)) (hf : ∀ k, IsReal (f k)) :
    normedRsqrt u f g be = normedSqrt u f g be := by
  choose u' hu' using hu
  choose f' hf' using hf
  obtain rfl : u = fun k => (u' k : EReal) := funext hu'
  obtain rfl : f = fun k => (f' k : EReal) := funext hf'
  obtain ⟨ε, hε, hpos⟩ := lnEps_pos
  have h384 : (384 : ℝ) ≠ 0 := by norm_num
  set μ : ℝ := (∑ k, u' k + ∑ k, f' k) / 384 with hμ
  have hmean : mean (fun k => (u' k : EReal)) (fun k => (f' k : EReal)) = (μ : EReal) := by
    unfold mean
    rw [← coe_fsum, ← coe_fsum, ← EReal.coe_add, width_eq, div_real h384]
  set v : ℝ := (∑ k, (u' k - μ) * (u' k - μ) + ∑ k, (f' k - μ) * (f' k - μ)) / 384 with hv
  have hdev : varOfDeviations (fun k => (u' k : EReal)) (fun k => (f' k : EReal)) = (v : EReal) := by
    unfold varOfDeviations
    rw [hmean, width_eq]
    simp only [← EReal.coe_sub, ← EReal.coe_mul, ← coe_fsum, ← EReal.coe_add]
    rw [div_real h384]
  have hsq : varOfSquares (fun k => (u' k : EReal)) (fun k => (f' k : EReal)) = (v : EReal) := by
    unfold varOfSquares
    rw [hmean, width_eq]
    simp only [← EReal.coe_mul, ← coe_fsum, ← EReal.coe_add]
    rw [div_real h384, ← EReal.coe_sub, variance_real u' f' μ hμ]
  have hv0 : 0 ≤ v := by
    have h1 : 0 ≤ ∑ k, (u' k - μ) * (u' k - μ) := Finset.sum_nonneg fun k _ => mul_self_nonneg _
    have h2 : 0 ≤ ∑ k, (f' k - μ) * (f' k - μ) := Finset.sum_nonneg fun k _ => mul_self_nonneg _
    rw [hv]; positivity
  have hvp : 0 < v + ε := by linarith
  funext k
  unfold normedRsqrt normedSqrt
  rw [hdev, hsq, hε, ← EReal.coe_add, Ideal.rsqrt_coe, Ideal.sqrt_coe, if_neg hvp.not_gt, if_neg hvp.not_gt, if_neg hvp.ne',
    Ideal.div_coe (Real.sqrt_pos.mpr hvp).ne', one_div]

end GnnHead

end
-- ==== Proof.Values.lean ====
/- The two values are one: under the precondition the kernel's formula and the reference's formula agree. -/
module

public import proofs.«01_k».proof.Proof.KernelValue
public import proofs.«01_k».proof.Proof.RefRead
public import proofs.«01_k».proof.Proof.PreFacts
public import proofs.«01_k».proof.Proof.Equation

@[expose] public section

set_option maxRecDepth 16384

noncomputable section

open Idealize.ShloMosaic Idealize.ShloMosaic.TcCoe

namespace Cert.Values

open Cert.ReferenceIdeal Cert.ReferenceIdeal.Read GnnHead

variable (x0 : FVec Ideal S1024x128 .f32) (x1 : FVec Ideal S1024x64x128 .f32) (x2 : FVec Ideal S1024x64x64 .f32)
  (x3 : IVec S1024x1 32) (x4 : FVec Ideal S128x256 .f32) (x5 : FVec Ideal S256 .f32) (x6 : FVec Ideal S256x256 .f32)
  (x7 : FVec Ideal S256 .f32) (x8 : FVec Ideal S256x256 .f32) (x9 : FVec Ideal S256 .f32) (x10 x11 : FVec Ideal S384 .f32)
  (x12 : FVec Ideal S384x256 .f32) (x13 : FVec Ideal S256 .f32) (x14 : FVec Ideal S256x256 .f32) (x15 : FVec Ideal S256 .f32)
  (x16 : FVec Ideal S256x1 .f32) (x17 : FVec Ideal S1 .f32)

/-- On finite inputs, with node `a` asked for, the kernel's value of environment `b` is the reference's. -/
theorem kernel_eq_reference (h0 : ∀ i, IsReal (x0 i)) (h1 : ∀ i, IsReal (x1 i)) (h2 : ∀ i, IsReal (x2 i))
    (h4 : ∀ i, IsReal (x4 i)) (h5 : ∀ i, IsReal (x5 i)) (h6 : ∀ i, IsReal (x6 i)) (h7 : ∀ i, IsReal (x7 i))
    (h8 : ∀ i, IsReal (x8 i)) (h9 : ∀ i, IsReal (x9 i)) (b : Fin 1024) (a : Fin 64)
    (ha : x3 (ix2 b 0) = BitVec.ofNat 32 a.val) :
    val_main_v71 (F := Ideal) x0 x1 x2 x3 x4 x5 x6 x7 x8 x9 x10 x11 x12 x13 x14 x15 x16 x17 (ix2 b 0)
      = Cert.KernelIdeal.KernelValue.kernelValue x0 x1 x2 x4 x5 x6 x7 x8 x9 x10 x11 x12 x13 x14 x15 x16 x17 b a := by
  refine (RefRead.result_at x0 x1 x2 x3 x4 x5 x6 x7 x8 x9 x10 x11 x12 x13 x14 x15 x16 x17 b a ha).trans ?_
  unfold Cert.KernelIdeal.KernelValue.kernelValue
  refine congrArg (fun z => value z _ _ _ _ _ _) ?_
  refine (normed_eq _ _ (fun k => h0 (ix2 b k)) fun h => nodeFeats_real (fun n d => h1 (ix3 b n d)) (fun i j => h2 (ix3 b i j))
    (fun d h => h4 (ix2 d h)) (fun h => h5 (ix1 h)) (fun e h => h6 (ix2 e h)) (fun h => h7 (ix1 h)) (fun e h => h8 (ix2 e h))
    (fun h => h9 (ix1 h)) a h).symm.trans ?_
  exact congrArg (fun f => normedRsqrt _ f _ _) (feats_gathered a _ _ _ (fun n d => h1 (ix3 b n d)) (fun i j => h2 (ix3 b i j))
    (fun d h => h4 (ix2 d h)) (fun h => h5 (ix1 h)) (fun e h => h6 (ix2 e h))).symm

/-- An array `k` that holds the kernel's values is the reference's result on equal arguments, where the precondition holds. -/
theorem reference_eq
    {y0 : FVec Ideal S1024x128 .f32} {y1 : FVec Ideal S1024x64x128 .f32} {y2 : FVec Ideal S1024x64x64 .f32}
    {y3 : IVec S1024x1 32} {y4 : FVec Ideal S128x256 .f32} {y5 : FVec Ideal S256 .f32} {y6 : FVec Ideal S256x256 .f32}
    {y7 : FVec Ideal S256 .f32} {y8 : FVec Ideal S256x256 .f32} {y9 : FVec Ideal S256 .f32} {y10 : FVec Ideal S384 .f32}
    {y11 : FVec Ideal S384 .f32} {y12 : FVec Ideal S384x256 .f32} {y13 : FVec Ideal S256 .f32}
    {y14 : FVec Ideal S256x256 .f32} {y15 : FVec Ideal S256 .f32} {y16 : FVec Ideal S256x1 .f32} {y17 : FVec Ideal S1 .f32}
    {k : FVec Ideal S1024x1 .f32}
    (e0 : y0 = x0) (e1 : y1 = x1) (e2 : y2 = x2) (e3 : y3 = x3) (e4 : y4 = x4) (e5 : y5 = x5) (e6 : y6 = x6) (e7 : y7 = x7)
    (e8 : y8 = x8) (e9 : y9 = x9) (e10 : y10 = x10) (e11 : y11 = x11) (e12 : y12 = x12) (e13 : y13 = x13) (e14 : y14 = x14)
    (e15 : y15 = x15) (e16 : y16 = x16) (e17 : y17 = x17)
    (hpre : Cert.Pre_finite_and_in_range.fn (F := Ideal) x0 x1 x2 x3 x4 x5 x6 x7 x8 x9 x10 x11 x12 x13 x14 x15 x16 x17 = fun _ => 1#1)
    (hk : ∀ a : Fin 1024 → Fin 64, (∀ b : Fin 1024, x3 (ix2 b 0) = BitVec.ofNat 32 (a b).val) → ∀ b : Fin 1024,
      k (ix2 b 0) = Cert.KernelIdeal.KernelValue.kernelValue x0 x1 x2 x4 x5 x6 x7 x8 x9 x10 x11 x12 x13 x14 x15 x16 x17 b (a b)) :
    val_main_v71 (F := Ideal) y0 y1 y2 y3 y4 y5 y6 y7 y8 y9 y10 y11 y12 y13 y14 y15 y16 y17 = k := by
  subst e0 e1 e2 e3 e4 e5 e6 e7 e8 e9 e10 e11 e12 e13 e14 e15 e16 e17
  obtain ⟨h0, h1, h2, h4, h5, h6, h7, h8, h9, a, ha⟩ :=
    Cert.Pre_finite_and_in_range.PreFacts.facts_of_pre y0 y1 y2 y3 y4 y5 y6 y7 y8 y9 y10 y11 y12 y13 y14 y15 y16 y17 hpre
  funext j
  obtain ⟨b, z, rfl⟩ : ∃ (b : Fin 1024) (z : Fin 1), j = ix2 b z := ⟨j 0, j 1, by funext t; fin_cases t <;> rfl⟩
  obtain rfl : z = 0 := Subsingleton.elim _ _
  exact (kernel_eq_reference y0 y1 y2 y3 y4 y5 y6 y7 y8 y9 y10 y11 y12 y13 y14 y15 y16 y17 h0 h1 h2 h4 h5 h6 h7 h8 h9 b (a b)
    (ha b)).trans (hk a ha b).symm

end Cert.Values

end
-- ==== Proof.lean ====
/- The five claims about the graph value network, assembled: the two programs' frames, and the equation of the kernel's
   result with the reference's under the precondition. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_and_in_range
public import proofs.«01_k».proof.Proof.ValueRun
public import proofs.«01_k».proof.Proof.KernelValue
public import proofs.«01_k».proof.Proof.Values
public import Idealize.ShloMosaic.Lib.StableHlo.RunHlo
public import Idealize.ShloMosaic.Adequacy
public import Idealize.ShloMosaic.Init

@[expose] public section

set_option maxRecDepth 16384

noncomputable section

namespace Cert.Proof

open Idealize.ShloMosaic Idealize.ShloMosaic.TcCoe Idealize.SL.Sem

section
open Cert.KernelIdeal Cert.KernelIdeal.Gen

/-- The kernel's run, read at its result and at its arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
          r.2.mem ((c.tc : Thread nD τ).loc main_v0) = W5 m ρ c (Proc.devRef .tc main_v0)
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)
          ∧ r.2.mem ((c.tc : Thread nD τ).loc main_arg8) = m ((c.tc : Thread nD τ).loc main_arg8)
          ∧ r.2.mem ((c.tc : Thread nD τ).loc main_arg9) = m ((c.tc : Thread nD τ).loc main_arg9)
          ∧ r.2.mem ((c.tc : Thread nD τ).loc main_arg10) = m ((c.tc : Thread nD τ).loc main_arg10)
          ∧ r.2.mem ((c.tc : Thread nD τ).loc main_arg11) = m ((c.tc : Thread nD τ).loc main_arg11)
          ∧ r.2.mem ((c.tc : Thread nD τ).loc main_arg12) = m ((c.tc : Thread nD τ).loc main_arg12)
          ∧ r.2.mem ((c.tc : Thread nD τ).loc main_arg13) = m ((c.tc : Thread nD τ).loc main_arg13)
          ∧ r.2.mem ((c.tc : Thread nD τ).loc main_arg14) = m ((c.tc : Thread nD τ).loc main_arg14)
          ∧ r.2.mem ((c.tc : Thread nD τ).loc main_arg15) = m ((c.tc : Thread nD τ).loc main_arg15)
          ∧ r.2.mem ((c.tc : Thread nD τ).loc main_arg16) = m ((c.tc : Thread nD τ).loc main_arg16)
          ∧ r.2.mem ((c.tc : Thread nD τ).loc main_arg17) = m ((c.tc : Thread nD τ).loc main_arg17)) :=
  θ_run_mono (Cert.KernelIdeal.ValueRun.run m ρ) fun r h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c)⟩

end

/-- The reference ends with its arguments unchanged; it has no semaphore, so its counters are all at zero. -/
theorem reference_frame : Cert.quiescent_ReferenceIdeal (hReferenceIdeal := Cert.ReferenceIdeal.Gen.facts) := fun m ρ _ =>
  θ_run_mono (Cert.ReferenceIdeal.Value.run (F := Ideal) m ρ) fun r h => ⟨fun c => (h c).2, funext fun g => by
    obtain ⟨t, s | s⟩ := g <;> exact s.elim0⟩

/-- Where the precondition holds and the arguments agree, the reference's result is what the kernel's result array holds. -/
theorem results_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal_finite_and_in_range m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Value.res_main_v71 m' c
      = Cert.KernelIdeal.Gen.W5 m ρ c (Proc.devRef .tc Cert.KernelIdeal.main_v0) := by
  obtain ⟨e0, e1, e2, e3, e4, e5, e6, e7, e8, e9, e10, e11, e12, e13, e14, e15, e16, e17⟩ := hagree
  refine (Cert.ReferenceIdeal.Read.val_main_v71_eq m' c).trans ?_
  exact Cert.Values.reference_eq _ _ _ _ _ _ _ _ _ _ _ _ _ _ _ _ _ _ e0 e1 e2 e3 e4 e5 e6 e7 e8 e9 e10 e11 e12 e13 e14 e15 e16 e17 (hpre c)
    fun a ha b => Cert.KernelIdeal.KernelValue.result_at m ρ c a ha b

/-- Everything the certificate claims. -/
theorem claim : Cert.Claim :=
  ⟨Cert.Kernel.Gen.facts, Cert.KernelIdeal.Gen.facts, Cert.ReferenceIdeal.Gen.facts, Cert.Pre_finite_and_in_range.Gen.facts,
    fun m g _ => Cert.Kernel.Gen.frame m g, fun m g _ => Cert.KernelIdeal.Gen.frame m g,
    fun m g _ => Cert.KernelIdeal.Gen.frame m g, reference_frame, fun m g _ => reference_frame m g trivial, trivial,
    fun m g m' g' hpre hagree => ⟨fun c => Cert.KernelIdeal.Gen.W5 m g c (Proc.devRef .tc Cert.KernelIdeal.main_v0),
      kernel_run m g, θ_run_mono (Cert.ReferenceIdeal.Value.run (F := Ideal) m' g') fun r h c =>
        ⟨(h c).1.trans (results_eq m g m' hpre c (hagree c)), (h c).2⟩⟩⟩

end Cert.Proof

end
